-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![8, 512, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![8, 512, 768]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S2x512x768 .f32) (main_arg1 : FVec F S768x512 .f32) (main_arg2 : FVec F S8x512x32x64 .f32) (main_arg3 : FVec F S8x512x32x64 .f32) (main_arg4 : FVec F S512x768 .f32) : IVec S_ 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Pre_finite_ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S8x512x32x64 : S_.BroadcastsInDim S8x512x32x64 (![] : Fin 0 → Fin S8x512x32x64.rank)
  reducesTo_S8x512x32x64_S_d0_1_2_3 : S8x512x32x64.ReducesTo [0, 1, 2, 3] S_

variable [Facts]

def fn {F : FTy → Type} [FloatOps F] (main_arg0 : FVec F S8x512x768 .f32) (main_arg1 : FVec F S768x2048 .f32) (main_arg2 : FVec F S8x512x32x64 .f32) (main_arg3 : FVec F S8x512x32x64 .f32) (main_arg4 : FVec F S2048x768 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S8x512x32x64 .f32 := Host.absf main_arg2
  let main_cst_2 : FVec F S_ .f32 := constant S_ .f32 0x7F800000#32
  let main_v10 : FVec F S8x512x32x64 .f32 := broadcastInDim S8x512x32x64 ![] bcast_S_S8x512x32x64 main_cst_2
  let main_v11 : IVec S8x512x32x64 1 := cmpf .olt main_v9 main_v10
  let main_c_3 : IVec S_ 1 := constantI S_ 1 1#1
  let main_v12 : IVec S_ 1 := (fun x v => Host.reduce IntOp.andi x v reducesTo_S8x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S8x512x32x64 : Shape := ⟨4, ![8, 512, 32, 64]⟩
abbrev S512x768 : Shape := ⟨2, ![512, 768]⟩
abbrev S4x768x512 : Shape := ⟨3, ![4, 768, 512]⟩
abbrev S4x512x768 : Shape := ⟨3, ![4, 512, 768]⟩
abbrev S4x8x2x512x64 : Shape := ⟨5, ![4, 8, 2, 512, 64]⟩
abbrev S3 : Shape := ⟨1, ![3]⟩
abbrev S32 : Shape := ⟨1, ![32]⟩
abbrev S1 : Shape := ⟨1, ![1]⟩
abbrev S_ : Shape := ⟨0, ![]⟩
abbrev S1x1x2x512x64 : Shape := ⟨5, ![1, 1, 2, 512, 64]⟩
abbrev S2x512x64 : Shape := ⟨3, ![2, 512, 64]⟩
abbrev S2x512x1x64 : Shape := ⟨4, ![2, 512, 1, 64]⟩
abbrev S1x768x512 : Shape := ⟨3, ![1, 768, 512]⟩
abbrev S1x512x768 : Shape := ⟨3, ![1, 512, 768]⟩
abbrev S512x512 : Shape := ⟨2, ![512, 512]⟩
abbrev S512x64 : Shape := ⟨2, ![512, 64]⟩
abbrev S1x1x1x512x64 : Shape := ⟨5, ![1, 1, 1, 512, 64]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S8x512x32x64, .f32⟩
  | .hbm, ⟨3, _⟩ => ⟨S8x512x32x64, .f32⟩
  | .hbm, ⟨4, _⟩ => ⟨S512x768, .f32⟩
  | .hbm, ⟨5, _⟩ => ⟨S2x512x768, .f32⟩
  | .local _ .vmem, ⟨0, _⟩ => ⟨S2x512x768, .f32⟩
  | .local _ .vmem, ⟨1, _⟩ => ⟨S768x512, .f32⟩
  | .local _ .vmem, ⟨2, _⟩ => ⟨S512x768, .f32⟩
  | .local _ .vmem, ⟨3, _⟩ => ⟨S2x512x768, .f32⟩
  | .local _ .vmem, ⟨4, _⟩ => ⟨S4x768x512, .bf16⟩
  | .local _ .vmem, ⟨5, _⟩ => ⟨S4x512x768, .bf16⟩
  | .local _ .vmem, ⟨6, _⟩ => ⟨S4x8x2x512x64, .f32⟩
  | .local _ .vmem, ⟨7, _⟩ => ⟨S4x8x2x512x64, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) (c0_i32_7 : BitVec 32) : Fin 4 → Nat :=
  let c2_i32 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v13 : BitVec 32 := Scalar.muli c2_i32 v2
  let c0_i32_14 : BitVec 32 := 0#32
  let v8 : BitVec 32 := Scalar.subi v2 c0_i32
  let c4_i32_5 : BitVec 32 := 4#32
  let v9 : BitVec 32 := Scalar.addi v8 c4_i32_5
  let c4_i32_6 : BitVec 32 := 4#32
  let v10 : BitVec 32 := Scalar.remsi v9 c4_i32_6
  let c8_i32 : BitVec 32 := 8#32
  let v11 : BitVec 32 := Scalar.muli v10 c8_i32
  let v12 : BitVec 32 := Scalar.addi v11 c0_i32_7
  let c0_i32_15 : BitVec 32 := 0#32
  ![v13.toNat, 0, v12.toNat, 0]
def k0_dev1 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_637 : BitVec 32 := 1#32
  let v545 : BitVec 32 := Scalar.muli v5 c1_i32_637
  let v546 : BitVec 32 := Scalar.addi c0_i32_638 v545
  v546.toNat
def k0_dev2 (d0 : Dev nD) : Nat :=
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_640 : BitVec 32 := 1#32
  let v547 : BitVec 32 := Scalar.muli v7 c1_i32_640
  let v548 : BitVec 32 := Scalar.addi c0_i32_641 v547
  v548.toNat
def k0_dev3 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_663 : BitVec 32 := 1#32
  let v606 : BitVec 32 := Scalar.muli v7 c1_i32_663
  let v607 : BitVec 32 := Scalar.addi c0_i32_664 v606
  v607.toNat
def k0_dev4 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_673 : BitVec 32 := 1#32
  let v616 : BitVec 32 := Scalar.muli v7 c1_i32_673
  let v617 : BitVec 32 := Scalar.addi c0_i32_674 v616
  v617.toNat
def k0_dev5 (d0 : Dev nD) : Nat :=
  let c0_i32_1068 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1067 : BitVec 32 := 1#32
  let v1050 : BitVec 32 := Scalar.muli v7 c1_i32_1067
  let v1051 : BitVec 32 := Scalar.addi c0_i32_1068 v1050
  v1051.toNat
def k0_dev6 (d0 : Dev nD) : Nat :=
  let c0_i32_1078 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1077 : BitVec 32 := 1#32
  let v1060 : BitVec 32 := Scalar.muli v7 c1_i32_1077
  let v1061 : BitVec 32 := Scalar.addi c0_i32_1078 v1060
  v1061.toNat
def k0_dev7 (d0 : Dev nD) : Nat :=
  let c0_i32_1486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1485 : BitVec 32 := 1#32
  let v1500 : BitVec 32 := Scalar.muli v7 c1_i32_1485
  let v1501 : BitVec 32 := Scalar.addi c0_i32_1486 v1500
  v1501.toNat
def k0_dev8 (d0 : Dev nD) : Nat :=
  let c0_i32_1496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1495 : BitVec 32 := 1#32
  let v1510 : BitVec 32 := Scalar.muli v7 c1_i32_1495
  let v1511 : BitVec 32 := Scalar.addi c0_i32_1496 v1510
  v1511.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x512x768 : Shape := ⟨3, ![8, 512, 768]⟩
abbrev S768x2048 : Shape := ⟨2, ![768, 2048]⟩
abbrev S8x512x32x64 : Shape := ⟨4, ![8, 512, 32, 64]⟩
abbrev S2048x768 : Shape := ⟨2, ![2048, 768]⟩
abbrev S8x512x2048 : Shape := ⟨3, ![8, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x32x512x512 : Shape := ⟨4, ![8, 32, 512, 512]⟩
abbrev S1x1x512x512 : Shape := ⟨4, ![1, 1, 512, 512]⟩
abbrev S8x32x512 : Shape := ⟨3, ![8, 32, 512]⟩
abbrev S8x32x512x1 : Shape := ⟨4, ![8, 32, 512, 1]⟩
abbrev S1x1x512x1 : Shape := ⟨4, ![1, 1, 512, 1]⟩
abbrev S8x32x64x512 : Shape := ⟨4, ![8, 32, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S768x2048, .f32⟩
  | .hbm, ⟨2, _⟩ => ⟨S8x512x32x64, .f32⟩
  | .hbm, ⟨3, _⟩ => ⟨S8x512x32x64, .f32⟩
  | .hbm, ⟨4, _⟩ => ⟨S2048x768, .f32⟩
  | .hbm, ⟨5, _⟩ => ⟨S8x512x2048, .f32⟩
  | .hbm, ⟨6, _⟩ => ⟨S8x512x32x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S8x32x512x512, .f32⟩
  | .hbm, ⟨51, _⟩ => ⟨S_, .f32⟩
  | .hbm, ⟨52, _⟩ => ⟨S8x32x512x512, .f32⟩
  | .hbm, ⟨53, _⟩ => ⟨S8x32x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S8x32x512x512, .i1⟩
  | .hbm, ⟨58, _⟩ => ⟨S8x32x512x512, .f32⟩
  | .hbm, ⟨59, _⟩ => ⟨S8x32x512x512, .f32⟩
  | .hbm, ⟨60, _⟩ => ⟨S_, .f32⟩
  | .hbm, ⟨61, _⟩ => ⟨S8x32x512, .f32⟩
  | .hbm, ⟨62, _⟩ => ⟨S8x32x512x1, .f32⟩
  | .hbm, ⟨63, _⟩ => ⟨S8x32x512x512, .f32⟩
  | .hbm, ⟨64, _⟩ => ⟨S8x32x512x512, .f32⟩
  | .hbm, ⟨65, _⟩ => ⟨S8x32x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S8x32x512, .f32⟩
  | .hbm, ⟨71, _⟩ => ⟨S8x32x512x1, .f32⟩
  | .hbm, ⟨72, _⟩ => ⟨S_, .f32⟩
  | .hbm, ⟨73, _⟩ => ⟨S_, .f32⟩
  | .hbm, ⟨74, _⟩ => ⟨S8x32x512x1, .i1⟩
  | .hbm, ⟨75, _⟩ => ⟨S8x32x512x1, .f32⟩
  | .hbm, ⟨76, _⟩ => ⟨S8x32x512x1, .f32⟩
  | .hbm, ⟨77, _⟩ => ⟨S8x32x512x512, .f32⟩
  | .hbm, ⟨78, _⟩ => ⟨S8x32x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S8x32x512x512, .i1⟩
  | .hbm, ⟨83, _⟩ => ⟨S8x32x512x512, .f32⟩
  | .hbm, ⟨84, _⟩ => ⟨S8x32x512x512, .f32⟩
  | .hbm, ⟨85, _⟩ => ⟨S8x32x64x512, .f32⟩
  | .hbm, ⟨86, _⟩ => ⟨S8x512x32x64, .f32⟩
  | .hbm, ⟨87, _⟩ => ⟨S8x512x2048, .f32⟩
  | .hbm, ⟨88, _⟩ => ⟨S8x512x768, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Proto.lean ====
/-
The ring's protocol on four devices, stated before any step of it is taken.

Every device holds a quarter of the query weights (`Wq`, by columns) and of the output weights (`Wo`, by rows). Slot 0 of
each of the two communication buffers receives the device's own quarter; in hop `h` (0, 1, 2) slot `h` is copied onto slot
`h + 1` of the next device. So slot `j` of device `c` ends up holding the quarter of the device `j` places back.

Cells and who meets on them, per device `c`:
* the barrier cell: the next device pays one unit and hands over its slots 1, 2, 3 of both buffers (duty `true`); the
  previous one pays one unit and hands over nothing (duty `false`); `c` waits for both;
* the send cell of hop `h` of either buffer: `c`'s own copy pays it, and hands back the half share of slot `h` it read;
* the receive cell of hop `h` of either buffer: the previous device's copy pays it, and hands over slot `h + 1`, holding the
  quarter of the device `h + 1` places back.
The 64 copies of key and value planes stay on the device, each on a cell of its own.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's, the ring's, and the counters of the copies within a device -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER : Emb UB (MT nD τ sig Unit (Elt F) ℕ UU ℕ)).LandsIn (upEmb : UEmb _ 𝕄) := by unfold ER; infer_instance
/-- The part of the copies within a device. -/
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The ring of devices -/

/-- The device one place on. -/
def nxt (c : Dev nD) : Dev nD := ⟨(c.val + 1) % 4, Nat.mod_lt _ (by decide)⟩
/-- The device `j` places back. -/
def back (c : Dev nD) (j : ℕ) : Dev nD := ⟨(c.val + (4 - j % 4)) % 4, Nat.mod_lt _ (by decide)⟩
/-- The device one place back. -/
abbrev prv (c : Dev nD) : Dev nD := back c 1

theorem prv_nxt : ∀ c : Dev nD, prv (nxt c) = c := by decide
theorem nxt_prv : ∀ c : Dev nD, nxt (prv c) = c := by decide
theorem nxt_ne_prv : ∀ c : Dev nD, nxt c ≠ prv c := by decide
theorem back_zero : ∀ c : Dev nD, back c 0 = c := by decide
/-- One place on and one more place back is where we were. -/
theorem back_nxt : ∀ (c : Dev nD) (h : Fin 3), back (nxt c) (h.val + 1) = back c h.val := by decide

/-- The ring as a permutation of the devices. -/
def ring : Dev nD ≃ Dev nD := ⟨nxt, prv, prv_nxt, nxt_prv⟩

/-- The addresses the kernel computes: the first signal goes one place back, the second and every copy one place on. -/
theorem dev1_eq : ∀ c : Dev nD, (⟨k0_dev1 c, k0_dev1_lt c⟩ : Dev nD) = prv c := by decide
theorem dev2_eq : ∀ c : Dev nD, (⟨k0_dev2 c, k0_dev2_lt c⟩ : Dev nD) = nxt c := by decide
theorem dev3_eq : ∀ c : Dev nD, (⟨k0_dev3 c, k0_dev3_lt c⟩ : Dev nD) = nxt c := by decide
theorem dev4_eq : ∀ c : Dev nD, (⟨k0_dev4 c, k0_dev4_lt c⟩ : Dev nD) = nxt c := by decide
theorem dev5_eq : ∀ c : Dev nD, (⟨k0_dev5 c, k0_dev5_lt c⟩ : Dev nD) = nxt c := by decide
theorem dev6_eq : ∀ c : Dev nD, (⟨k0_dev6 c, k0_dev6_lt c⟩ : Dev nD) = nxt c := by decide
theorem dev7_eq : ∀ c : Dev nD, (⟨k0_dev7 c, k0_dev7_lt c⟩ : Dev nD) = nxt c := by decide
theorem dev8_eq : ∀ c : Dev nD, (⟨k0_dev8 c, k0_dev8_lt c⟩ : Dev nD) = nxt c := by decide

/-! ## The two communication buffers: `false` is the query weights', `true` the output weights' -/

abbrev shp : Bool → Shape | false => S768x512 | true => S512x768
abbrev wqM : Memref sig .tc .vmem S4x768x512 .bf16 := Memref.whole cc0_scratch0
abbrev woM : Memref sig .tc .vmem S4x512x768 .bf16 := Memref.whole cc0_scratch1

theorem inbQ (j : Fin 4) : ∀ a, (![j.val, 0, 0] : Fin 3 → Nat) a + S1x768x512.size a ≤ S4x768x512.size a := by revert j; decide
theorem inbO (j : Fin 4) : ∀ a, (![j.val, 0, 0] : Fin 3 → Nat) a + S1x512x768.size a ≤ S4x512x768.size a := by revert j; decide
theorem inb3 (h : Fin 3) : ∀ a, (![h.val] : Fin 1 → Nat) a + S1.size a ≤ S3.size a := by revert h; decide
theorem inb32 (n : Fin 32) : ∀ a, (![n.val] : Fin 1 → Nat) a + S1.size a ≤ S32.size a := by revert n; decide

/-- Slot `j` as a rectangle of its buffer. -/
abbrev rectQ (j : Fin 4) : Rect S4x768x512 := Rect.unit (s := S4x768x512) ![j.val, 0, 0] S1x768x512.size (inbQ j)
abbrev rectO (j : Fin 4) : Rect S4x512x768 := Rect.unit (s := S4x512x768) ![j.val, 0, 0] S1x512x768.size (inbO j)

/-- Slot `j` of a buffer. -/
abbrev slot : (b : Bool) → Fin 4 → Memref sig .tc .vmem (shp b) .bf16
  | false, j => (wqM.slice (rectQ j) (fun _ => rfl)).squeeze S768x512 squeezes_S1x768x512_S768x512
  | true, j => (woM.slice (rectO j) (fun _ => rfl)).squeeze S512x768 squeezes_S1x512x768_S512x768

/-- The semaphore hop `h`'s copy is announced on where it leaves, and where it lands. -/
abbrev ssem : Bool → Fin 3 → DmaSem sig
  | false, h => (((cc0_scratch4 : DmaSems sig S3).slice (Rect.unit (s := S3) ![h.val] S1.size (inb3 h))).squeeze S_ squeezes_S1_S_).sem
  | true, h => (((cc0_scratch6 : DmaSems sig S3).slice (Rect.unit (s := S3) ![h.val] S1.size (inb3 h))).squeeze S_ squeezes_S1_S_).sem
abbrev rsem : Bool → Fin 3 → DmaSem sig
  | false, h => (((cc0_scratch5 : DmaSems sig S3).slice (Rect.unit (s := S3) ![h.val] S1.size (inb3 h))).squeeze S_ squeezes_S1_S_).sem
  | true, h => (((cc0_scratch7 : DmaSems sig S3).slice (Rect.unit (s := S3) ![h.val] S1.size (inb3 h))).squeeze S_ squeezes_S1_S_).sem
/-- The barrier semaphore. -/
abbrev barS : Sem sig := (SemArray.scalar (sig.barrier 0 rfl) : Sems sig S_).sem

/-- The credit of one slot's copy. -/
abbrev N (b : Bool) : ℕ := (slot b 0).view.dmaCredit
theorem N_pos (b : Bool) : 0 < N b := by cases b <;> exact View.dmaCredit_pos _ (by decide)

/-! ## The planes of keys (`false`) and values (`true`) -/

abbrev hb : Bool → Memref sig .tc .hbm S8x512x32x64 .f32 | false => Memref.whole main_arg2 | true => Memref.whole main_arg3
abbrev ch : Bool → Memref sig .tc .vmem S4x8x2x512x64 .f32 | false => Memref.whole cc0_scratch2 | true => Memref.whole cc0_scratch3
abbrev cs : Bool → DmaSems sig S32 | false => cc0_scratch8 | true => cc0_scratch9

theorem inbP (h : Fin 4) (hh : Fin 8) : ∀ a, (![h.val, hh.val, 0, 0, 0] : Fin 5 → Nat) a + S1x1x2x512x64.size a ≤ S4x8x2x512x64.size a := by
  revert h hh; decide

/-- The pair of planes (one per batch row) that ring step `h` reads for its head `hh`, in the on-chip array. -/
abbrev rectP (h : Fin 4) (hh : Fin 8) : Rect S4x8x2x512x64 := Rect.unit (s := S4x8x2x512x64) ![h.val, hh.val, 0, 0, 0] S1x1x2x512x64.size (inbP h hh)
abbrev piece (b : Bool) (h : Fin 4) (hh : Fin 8) : Memref sig .tc .vmem S2x512x64 .f32 :=
  ((ch b).slice (rectP h hh) (fun _ => rfl)).squeeze S2x512x64 squeezes_S1x1x2x512x64_S2x512x64
/-- The planes they are copied from, in the whole array of keys or values. -/
abbrev psrc (b : Bool) (c : Dev nD) (h : Fin 4) (hh : Fin 8) : Memref sig .tc .hbm S2x512x64 .f32 :=
  ((hb b).slice (Rect.unit (s := S8x512x32x64) (k0_off1 c (BitVec.ofNat 32 h.val) (BitVec.ofNat 32 hh.val)) S2x512x1x64.size (k0_off1_inb c h hh))
    (fun _ => rfl)).squeeze S2x512x64 squeezes_S2x512x1x64_S2x512x64
/-- The semaphore of plane pair `n = 8 h + hh`. -/
abbrev psemN (b : Bool) (n : Fin 32) : DmaSem sig :=
  (((cs b).slice (Rect.unit (s := S32) ![n.val] S1.size (inb32 n))).squeeze S_ squeezes_S1_S_).sem
abbrev pix (h : Fin 4) (hh : Fin 8) : Fin 32 := ⟨8 * h.val + hh.val, by omega⟩
abbrev psem (b : Bool) (h : Fin 4) (hh : Fin 8) : DmaSem sig := psemN b (pix h hh)

/-! ## The cells of the ring -/

/-- A ring cell of a device: `none` the barrier's; else (arriving?, buffer, hop). -/
abbrev Ck : Type := Option (Bool × Bool × Fin 3)
abbrev sm : Ck → SemLoc sig
  | none => .reg barS
  | some (false, b, h) => .dma (ssem b h)
  | some (true, b, h) => .dma (rsem b h)
abbrev kcell (ck : Dev nD × Ck) : GSem nD τ sig := ((ck.1 : Thread nD τ), sm ck.2)
abbrev barCell (c : Dev nD) : GSem nD τ sig := kcell (c, none)
abbrev sendCell (b : Bool) (h : Fin 3) (c : Dev nD) : GSem nD τ sig := kcell (c, some (false, b, h))
abbrev recvCell (b : Bool) (h : Fin 3) (c : Dev nD) : GSem nD τ sig := kcell (c, some (true, b, h))

theorem sm_inj : Function.Injective sm := by
  have h : ∀ i j : Ck, sm i = sm j → i = j := by decide
  exact fun i j => h i j
theorem psem_not_sm : ∀ (b : Bool) (h : Fin 4) (hh : Fin 8) (k : Ck), sm k ≠ .dma (psem b h hh) := by decide
theorem psem_inj : ∀ p q : Bool × Fin 4 × Fin 8, psem p.1 p.2.1 p.2.2 = psem q.1 q.2.1 q.2.2 → p = q := by decide

end Cert.Attn
-- ==== Proof.Contents.lean ====
/-
What the buffers hold: the blocks as staged, the two communication buffers once every hop has landed, and the on-chip
planes of keys and values once their copies have.
-/
module

public import proofs.«01_k».proof.Proof.Proto
public import Idealize.ShloMosaic.Lib.ValueIdx
public import Idealize.ShloMosaic.Lib.ValueLayout
public import Idealize.ShloMosaic.Lib.Exec.Geometry

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-! ## The staged blocks -/

def xIn (c : Dev nD) : (cc0_stg0_0 : Ref sig .tc).ty.Contents (Elt F) :=
  (win0_0.blk (0 : Fin 1)).view.read (Elt F) (m ((c : Thread nD τ).loc main_arg0))
def wqIn (c : Dev nD) : (cc0_stg1_0 : Ref sig .tc).ty.Contents (Elt F) :=
  (win0_1.blk (0 : Fin 1)).view.read (Elt F) (m ((c : Thread nD τ).loc main_arg1))
def woIn (c : Dev nD) : (cc0_stg2_0 : Ref sig .tc).ty.Contents (Elt F) :=
  (win0_2.blk (0 : Fin 1)).view.read (Elt F) (m ((c : Thread nD τ).loc main_arg4))

/-! ## The communication buffers -/

/-- Device `d`'s quarter of the query weights, as it stores it in its slot 0. -/
def QS (d : Dev nD) : FVec F S1x768x512 .bf16 := k0_pay3 (k0_pay2 (wqIn m d))
/-- Device `d`'s quarter of the output weights, as it stores it in its slot 0. -/
def OS (d : Dev nD) : FVec F S1x512x768 .bf16 := k0_pay4 (woIn m d)

/-- Device `c`'s communication buffers once everything has landed: slot `j` holds the quarter of the device `j` back. -/
def contQ (c : Dev nD) : S4x768x512.Idx → Elt F .bf16 :=
  fun i => QS m (back c (i 0 : Fin 4).val) (ix3 (0 : Fin 1) (i 1 : Fin 768) (i 2 : Fin 512))
def contO (c : Dev nD) : S4x512x768.Idx → Elt F .bf16 :=
  fun i => OS m (back c (i 0 : Fin 4).val) (ix3 (0 : Fin 1) (i 1 : Fin 512) (i 2 : Fin 768))
def cont : (b : Bool) → (j : Fin 4) → (c : Dev nD) → Buf (Elt F) ((slot b j).view.loc (c : Thread nD τ))
  | false, _, c => contQ m c
  | true, _, c => contO m c

/-- What slot `j` holds is what the device `j` back stored. -/
theorem readQ (j : Fin 4) (c : Dev nD) :
    (wqM : Memref sig .tc .vmem S4x768x512 .bf16).view.readAt (Elt F) (rectQ j).toLoadRect (contQ m c) = QS m (back c j.val) := by
  funext x
  have h0 : (x 0 : Fin 1).val = 0 := Fin.val_eq_zero _
  have hx : ∀ (d d' : Dev nD) (y : S1x768x512.Idx), d = d' → y = x → QS m d y = QS m d' x := by rintro _ _ _ rfl rfl; rfl
  refine hx _ _ _ ?_ ?_
  · refine congrArg (back c) ?_
    show j.val + 1 * (x 0 : Fin 1).val = j.val
    omega
  · funext a
    apply Fin.ext
    match a with
    | ⟨0, _⟩ => exact h0.symm
    | ⟨1, _⟩ => show 0 + 1 * (x 1 : Fin 768).val = (x 1 : Fin 768).val; omega
    | ⟨2, _⟩ => show 0 + 1 * (x 2 : Fin 512).val = (x 2 : Fin 512).val; omega

theorem readO (j : Fin 4) (c : Dev nD) :
    (woM : Memref sig .tc .vmem S4x512x768 .bf16).view.readAt (Elt F) (rectO j).toLoadRect (contO m c) = OS m (back c j.val) := by
  funext x
  have h0 : (x 0 : Fin 1).val = 0 := Fin.val_eq_zero _
  have hx : ∀ (d d' : Dev nD) (y : S1x512x768.Idx), d = d' → y = x → OS m d y = OS m d' x := by rintro _ _ _ rfl rfl; rfl
  refine hx _ _ _ ?_ ?_
  · refine congrArg (back c) ?_
    show j.val + 1 * (x 0 : Fin 1).val = j.val
    omega
  · funext a
    apply Fin.ext
    match a with
    | ⟨0, _⟩ => exact h0.symm
    | ⟨1, _⟩ => show 0 + 1 * (x 1 : Fin 512).val = (x 1 : Fin 512).val; omega
    | ⟨2, _⟩ => show 0 + 1 * (x 2 : Fin 768).val = (x 2 : Fin 768).val; omega

/-- Slot `h` of device `c` and slot `h + 1` of the next device hold the same. -/
theorem read_slot (b : Bool) (h : Fin 3) (c : Dev nD) :
    (slot b h.succ).view.read (Elt F) (cont m b h.succ (nxt c)) = (slot b h.castSucc).view.read (Elt F) (cont m b h.castSucc c) := by
  have e : back (nxt c) h.succ.val = back c h.castSucc.val := back_nxt c h
  cases b
  · have h1 := readQ (F := F) m h.succ (nxt c)
    have h2 := readQ (F := F) m h.castSucc c
    rw [e] at h1
    funext x
    exact congrFun (h1.trans h2.symm) (Shape.reshapeEquiv squeezes_S1x768x512_S768x512.numel_eq x)
  · have h1 := readO (F := F) m h.succ (nxt c)
    have h2 := readO (F := F) m h.castSucc c
    rw [e] at h1
    funext x
    exact congrFun (h1.trans h2.symm) (Shape.reshapeEquiv squeezes_S1x512x768_S512x768.numel_eq x)

/-- Two contents that read alike through a view are alike under it. -/
theorem eq_on_of_read {Val : EltTy → Type} {κ : Kind} {sp : Space} {s : Shape} {e : EltTy} (v : View sig κ sp s e) (f g : v.ty.Contents Val)
    (h : v.read Val f = v.read Val g) : ∀ i ∈ v.set, f i = g i := by
  intro i hi
  obtain ⟨x, -, rfl⟩ := Finset.mem_map.mp hi
  have := congrFun h x
  exact cast_inj _ |>.mp this

/-- What a hop lands: written with slot `h` of device `c`, slot `h + 1` of the next device holds its final contents. -/
theorem landed_slot (b : Bool) (h : Fin 3) (c : Dev nD) (fd : Buf (Elt F) ((slot b h.succ).view.loc (nxt c : Thread nD τ))) :
    ∀ i ∈ (slot b h.succ).view.set, (slot b h.succ).view.write (Elt F) fd ((slot b h.castSucc).view.read (Elt F) (cont m b h.castSucc c)) Finset.univ i = cont m b h.succ (nxt c) i :=
  eq_on_of_read _ _ _ ((View.read_write_univ _ _).trans (read_slot m b h c).symm)

/-- What a device stores in its slot 0. -/
theorem stored_Q (c : Dev nD) (fd : Buf (Elt F) ((wqM.access (rectQ 0)).loc (c : Thread nD τ))) :
    ∀ i ∈ (slot false 0).view.set, (wqM.access (rectQ 0)).write (Elt F) fd (QS m c) Finset.univ i = contQ m c i := by
  intro i hi
  have h := readQ (F := F) m 0 c
  rw [show ((0 : Fin 4).val) = 0 from rfl, back_zero] at h
  exact eq_on_of_read (wqM.access (rectQ 0)) _ _ ((View.read_write_univ _ _).trans h.symm) i
    ((Finset.ext_iff.mp (Memref.set_view_squeeze (wqM.slice (rectQ 0) (fun _ => rfl)) squeezes_S1x768x512_S768x512) i).mp hi)
theorem stored_O (c : Dev nD) (fd : Buf (Elt F) ((woM.access (rectO 0)).loc (c : Thread nD τ))) :
    ∀ i ∈ (slot true 0).view.set, (woM.access (rectO 0)).write (Elt F) fd (OS m c) Finset.univ i = contO m c i := by
  intro i hi
  have h := readO (F := F) m 0 c
  rw [show ((0 : Fin 4).val) = 0 from rfl, back_zero] at h
  exact eq_on_of_read (woM.access (rectO 0)) _ _ ((View.read_write_univ _ _).trans h.symm) i
    ((Finset.ext_iff.mp (Memref.set_view_squeeze (woM.slice (rectO 0) (fun _ => rfl)) squeezes_S1x512x768_S512x768) i).mp hi)

/-! ## The planes -/

/-- The whole array of keys (`false`) or values (`true`). -/
def kv : (b : Bool) → (c : Dev nD) → Buf (Elt F) ((hb b).view.loc (c : Thread nD τ))
  | false, c => m ((c : Thread nD τ).loc main_arg2)
  | true, c => m ((c : Thread nD τ).loc main_arg3)

abbrev loBatch (c : Dev nD) (r : Fin 2) : Fin 8 := ⟨2 * c.val + r.val, by have := c.isLt; have : nD = 4 := rfl; omega⟩
abbrev headOf (c : Dev nD) (h : Fin 4) (hh : Fin 8) : Fin 32 := ⟨8 * (back c h.val).val + hh.val, by have := (back c h.val).isLt; have : nD = 4 := rfl; omega⟩

/-- The keys or values as an array of plain indices. -/
def kvA (b : Bool) (c : Dev nD) : S8x512x32x64.Idx → Elt F .f32 := match b with
  | false => m ((c : Thread nD τ).loc main_arg2)
  | true => m ((c : Thread nD τ).loc main_arg3)

/-- The on-chip array of planes once every copy has landed. -/
def chA (b : Bool) (c : Dev nD) : S4x8x2x512x64.Idx → Elt F .f32 :=
  fun i => kvA m b c (ix4 (loBatch c (i 2)) (i 3 : Fin 512) (headOf c (i 0) (i 1)) (i 4 : Fin 64))
def chC : (b : Bool) → (c : Dev nD) → Buf (Elt F) ((ch b).view.loc (c : Thread nD τ))
  | false, c => chA m false c
  | true, c => chA m true c

/-- The plane of batch row `r` that ring step `h` reads for its head `hh`. -/
def plane (b : Bool) (c : Dev nD) (h : Fin 4) (hh : Fin 8) (r : Fin 2) : S1x1x1x512x64.Idx → Elt F .f32 :=
  fun x => kvA m b c (ix4 (loBatch c r) (x 3 : Fin 512) (headOf c h hh) (x 4 : Fin 64))

theorem inbL (h : Fin 4) (hh : Fin 8) (r : Fin 2) : ∀ a, (![h.val, hh.val, r.val, 0, 0] : Fin 5 → Nat) a + S1x1x1x512x64.size a ≤ S4x8x2x512x64.size a := by
  revert h hh r; decide
abbrev rectL (h : Fin 4) (hh : Fin 8) (r : Fin 2) : Rect S4x8x2x512x64 :=
  Rect.unit (s := S4x8x2x512x64) ![h.val, hh.val, r.val, 0, 0] S1x1x1x512x64.size (inbL h hh r)

theorem reshapeEquiv_ix3_ab1c {a b c : ℕ} (h : (⟨3, ![a, b, c]⟩ : Shape).numel = (⟨4, ![a, b, 1, c]⟩ : Shape).numel)
    (x : Fin a) (y : Fin b) (z : Fin c) : Shape.reshapeEquiv h (ix3 x y z) = ix4 x y (⟨0, Nat.one_pos⟩ : Fin 1) z :=
  Shape.reshapeEquiv_eq_of_rowMajor h (by
    rw [Shape.rowMajor_val_four, Shape.rowMajor_val_three]
    show (((x.val * b + y.val) * 1 + 0) * c + z.val) = (x.val * b + y.val) * c + z.val
    simp only [Nat.mul_one, Nat.add_zero])

/-- A load of one plane from the on-chip array. -/
theorem read_plane (b : Bool) (c : Dev nD) (h : Fin 4) (hh : Fin 8) (r : Fin 2) :
    (ch b).view.readAt (Elt F) (rectL h hh r).toLoadRect (chC m b c) = plane m b c h hh r := by
  have key : ∀ b, (fun x : S1x1x1x512x64.Idx => chA m b c ((rectL h hh r).idx x)) = plane m b c h hh r := by
    intro b
    funext x
    have h0 : (x 0 : Fin 1).val = 0 := Fin.val_eq_zero _
    have h1 : (x 1 : Fin 1).val = 0 := Fin.val_eq_zero _
    have h2 : (x 2 : Fin 1).val = 0 := Fin.val_eq_zero _
    unfold chA plane
    have e0 : ((rectL h hh r).idx x 0 : Fin 4) = h := Fin.ext (by show h.val + 1 * (x 0 : Fin 1).val = h.val; omega)
    have e1 : ((rectL h hh r).idx x 1 : Fin 8) = hh := Fin.ext (by show hh.val + 1 * (x 1 : Fin 1).val = hh.val; omega)
    have e2 : ((rectL h hh r).idx x 2 : Fin 2) = r := Fin.ext (by show r.val + 1 * (x 2 : Fin 1).val = r.val; omega)
    have e3 : ((rectL h hh r).idx x 3 : Fin 512) = (x 3 : Fin 512) := Fin.ext (by show 0 + 1 * (x 3 : Fin 512).val = (x 3 : Fin 512).val; omega)
    have e4 : ((rectL h hh r).idx x 4 : Fin 64) = (x 4 : Fin 64) := Fin.ext (by show 0 + 1 * (x 4 : Fin 64).val = (x 4 : Fin 64).val; omega)
    rw [e0, e1, e2, e3, e4]
  cases b
  · exact key false
  · exact key true

/-- A landed plane pair reads what was copied. -/
theorem read_piece (b : Bool) (c : Dev nD) (h : Fin 4) (hh : Fin 8) :
    (piece b h hh).view.read (Elt F) (chC m b c) = (psrc b c h hh).view.read (Elt F) (kv m b c) := by
  have off : ∀ a : Fin 4, (k0_off1 c (BitVec.ofNat 32 h.val) (BitVec.ofNat 32 hh.val)) a = (![2 * c.val, 0, 8 * (((c.val + 4) - h.val) % 4) + hh.val, 0] : Fin 4 → Nat) a :=
    fun a => congrFun (k0_off1_eq c h hh) a
  have hb : (back c h.val).val = ((c.val + 4) - h.val) % 4 := by
    show (c.val + (4 - h.val % 4)) % 4 = _
    have := h.isLt; congr 1; omega
  have key : ∀ b, (fun x : S2x512x64.Idx => chA m b c ((rectP h hh).idx (Shape.reshapeEquiv squeezes_S1x1x2x512x64_S2x512x64.numel_eq x)))
      = fun x : S2x512x64.Idx => kvA m b c ((Rect.unit (s := S8x512x32x64) (k0_off1 c (BitVec.ofNat 32 h.val) (BitVec.ofNat 32 hh.val)) S2x512x1x64.size (k0_off1_inb c h hh)).idx
          (Shape.reshapeEquiv squeezes_S2x512x1x64_S2x512x64.numel_eq x)) := by
    intro b
    funext x
    rw [eq_ix3 x]
    have e1 := reshapeEquiv_ix3_11abc squeezes_S1x1x2x512x64_S2x512x64.numel_eq (x 0 : Fin 2) (x 1 : Fin 512) (x 2 : Fin 64)
    have e2 := reshapeEquiv_ix3_ab1c squeezes_S2x512x1x64_S2x512x64.numel_eq (x 0 : Fin 2) (x 1 : Fin 512) (x 2 : Fin 64)
    erw [e1, e2]
    unfold chA
    refine congrArg (kvA m b c) ?_
    funext a
    apply Fin.ext
    match a with
    | ⟨0, _⟩ =>
      refine Eq.trans ?_ (congrArg (· + 1 * (x 0 : Fin 2).val) (off 0)).symm
      show 2 * c.val + (0 + 1 * (x 0 : Fin 2).val) = 2 * c.val + 1 * (x 0 : Fin 2).val
      omega
    | ⟨1, _⟩ =>
      refine Eq.trans ?_ (congrArg (· + 1 * (x 1 : Fin 512).val) (off 1)).symm
      show 0 + 1 * (x 1 : Fin 512).val = 0 + 1 * (x 1 : Fin 512).val
      rfl
    | ⟨2, _⟩ =>
      refine Eq.trans ?_ (congrArg (· + 1 * 0) (off 2)).symm
      show 8 * (back c (h.val + 1 * 0)).val + (hh.val + 1 * 0) = 8 * (((c.val + 4) - h.val) % 4) + hh.val + 1 * 0
      simp only [Nat.mul_zero, Nat.add_zero]
      rw [hb]
    | ⟨3, _⟩ =>
      refine Eq.trans ?_ (congrArg (· + 1 * (x 2 : Fin 64).val) (off 3)).symm
      show 0 + 1 * (x 2 : Fin 64).val = 0 + 1 * (x 2 : Fin 64).val
      rfl
  cases b
  · exact key false
  · exact key true

/-- What a plane copy lands. -/
theorem landed_piece (b : Bool) (c : Dev nD) (h : Fin 4) (hh : Fin 8) (fd : Buf (Elt F) ((piece b h hh).view.loc (c : Thread nD τ))) :
    ∀ i ∈ (piece b h hh).view.set, (piece b h hh).view.write (Elt F) fd ((psrc b c h hh).view.read (Elt F) (kv m b c)) Finset.univ i = chC m b c i :=
  eq_on_of_read _ _ _ ((View.read_write_univ _ _).trans (read_piece m b c h hh).symm)

end Cert.Attn
-- ==== Proof.Sched.lean ====
/-
The ring's schedule: the duties of each cell, their amounts, and what meeting them hands over; what a device owes at
every stage, and the levels that order the waits.
-/
module

public import proofs.«01_k».proof.Proof.Contents

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Slots as resources -/

/-- The two halves of the full share. -/
abbrev hL : PosShare TreeShare := (fullShare : PosShare TreeShare).left
abbrev hR : PosShare TreeShare := (fullShare : PosShare TreeShare).right

/-- Slot `j` of device `c`, holding its final contents. -/
def pts (b : Bool) (j : Fin 4) (q : PosShare TreeShare) (c : Dev nD) : sProp 𝕄 :=
  (slot b j).view.loc (c : Thread nD τ) ↦[(slot b j).view.set]{q} cont m b j c
/-- Slot `j` of device `c`, holding anything. -/
def anyPts (b : Bool) (j : Fin 4) (c : Dev nD) : sProp 𝕄 :=
  iprop(∃ f : Buf (Elt F) ((slot b j).view.loc (c : Thread nD τ)), (slot b j).view.loc (c : Thread nD τ) ↦[(slot b j).view.set]{fullShare} f)

instance pts_storable (b j q) (c : Dev nD) : BI.Storable (upEmb : UEmb _ 𝕄) (pts m b j q c) := by unfold pts; infer_instance
omit [FloatOps F] in
instance anyPts_storable (b j) (c : Dev nD) : BI.Storable (upEmb : UEmb _ 𝕄) (anyPts (F := F) b j c) := by unfold anyPts; infer_instance

/-- What the next device's signal hands over: its slots 1, 2, 3 of both buffers. -/
def barPay (c : Dev nD) : sProp 𝕄 := BI.bigSep Finset.univ fun p : Bool × Fin 3 => anyPts p.1 p.2.succ (nxt c)

omit [FloatOps F] in
instance barPay_storable (c : Dev nD) : BI.Storable (upEmb : UEmb _ 𝕄) (barPay (F := F) c) := by unfold barPay; infer_instance

/-! ## The schedule -/

/-- What the duty `d` of a cell of device `c` hands over. -/
def pay (c : Dev nD) (k : Ck) (d : Bool) : sProp 𝕄 := match k with
  | none => if d then barPay c else iprop(emp)
  | some (false, b, h) => pts m b h.castSucc hR c
  | some (true, b, h) => pts m b h.succ fullShare c
instance pay_storable (c : Dev nD) (k : Ck) (d : Bool) : BI.Storable (upEmb : UEmb _ 𝕄) (pay m c k d) := by
  unfold pay; (repeat' split) <;> infer_instance

/-- The units one duty of a cell brings. -/
def unitsOf : Ck → ℕ | none => 1 | some (_, b, _) => N b
theorem unitsOf_pos (k : Ck) : 0 < unitsOf k := by
  rcases k with _ | ⟨_, b, _⟩
  · exact Nat.one_pos
  · exact N_pos b
/-- The duties of a cell: two at the barrier, one at every other. -/
def dutiesOf : Ck → Finset Bool | none => Finset.univ | some _ => {false}

/-- One round, round 0, on each ring cell of each device. -/
def Rd : Rounds.Schedule (GSem nD τ sig) Bool 𝕄 where
  duties g r := if r = 0 ∧ g.1.2 = .tc then Function.extend sm dutiesOf (fun _ => ∅) g.2 else ∅
  unitless _ := False
  amount g _ _ := Function.extend sm unitsOf (fun _ => 1) g.2
  payload g _ d := Function.extend sm (fun k => pay m g.1.1 k d) (fun _ => iprop(emp)) g.2
  amount_pos g _ _ _ := by
    by_cases h : ∃ k, sm k = g.2
    · obtain ⟨k, hk⟩ := h; rw [← hk, sm_inj.extend_apply]; exact unitsOf_pos k
    · rw [Function.extend_apply' _ _ _ h]; exact Nat.one_pos

instance Rd_storable (g : GSem nD τ sig) (r : ℕ) (d : Bool) : BI.Storable (upEmb : UEmb _ 𝕄) ((Rd (F := F) m).payload g r d) := by
  show BI.Storable upEmb (Function.extend sm (fun k => pay m g.1.1 k d) (fun _ => iprop(emp)) g.2)
  by_cases h : ∃ k, sm k = g.2
  · obtain ⟨k, hk⟩ := h; rw [← hk, sm_inj.extend_apply]; infer_instance
  · rw [Function.extend_apply' _ _ _ h]; infer_instance

theorem duties_cell (c : Dev nD) (k : Ck) : (Rd (F := F) m).duties (kcell (c, k)) 0 = dutiesOf k := by
  dsimp only [Rd]
  rw [if_pos ⟨rfl, rfl⟩]; exact sm_inj.extend_apply dutiesOf (fun _ => ∅) k
theorem duties_later (g : GSem nD τ sig) : ∀ r, 1 ≤ r → (Rd (F := F) m).duties g r = ∅ :=
  fun r hr => if_neg fun h => by omega
theorem amount_cell (c : Dev nD) (k : Ck) (d : Bool) : (Rd (F := F) m).amount (kcell (c, k)) 0 d = unitsOf k :=
  sm_inj.extend_apply unitsOf (fun _ => 1) k
theorem payload_cell (c : Dev nD) (k : Ck) (d : Bool) : (Rd (F := F) m).payload (kcell (c, k)) 0 d = pay m c k d :=
  sm_inj.extend_apply (fun k => pay m c k d) (fun _ => iprop(emp)) k

theorem expect_bar (c : Dev nD) : (Rd (F := F) m).expect (barCell c) 0 = 2 := by
  unfold Schedule.expect Schedule.amountOf
  rw [duties_cell, Finset.sum_congr rfl fun d _ => amount_cell m c none d]; rfl
theorem expect_xfer (c : Dev nD) (a b : Bool) (h : Fin 3) : (Rd (F := F) m).expect (kcell (c, some (a, b, h))) 0 = N b := by
  unfold Schedule.expect Schedule.amountOf
  rw [duties_cell, Finset.sum_congr rfl fun d _ => amount_cell m c _ d]
  exact Finset.sum_singleton _ _

theorem rest_bar (c : Dev nD) : BI.bigSep ((Rd (F := F) m).duties (barCell c) 0 \ ∅) (fun d => (Rd (F := F) m).payload (barCell c) 0 d) = iprop(emp ∗ barPay c) := by
  rw [Finset.sdiff_empty, duties_cell, show dutiesOf none = (Finset.univ : Finset Bool) from rfl,
    bigSep_univ_eq_bigSepL [false, true] (by decide) (by decide), bigSepL_cons_cons, bigSepL_singleton, payload_cell, payload_cell]
  rfl
theorem rest_xfer (c : Dev nD) (a b : Bool) (h : Fin 3) :
    BI.bigSep ((Rd (F := F) m).duties (kcell (c, some (a, b, h))) 0 \ ∅) (fun d => (Rd (F := F) m).payload (kcell (c, some (a, b, h))) 0 d)
      = pay m c (some (a, b, h)) false := by
  rw [Finset.sdiff_empty, duties_cell, show dutiesOf (some (a, b, h)) = {false} from rfl, bigSep_singleton, payload_cell]

/-! ## What a device owes -/

/-- The payments of device `c`, counted from the last: the cell and the units. The first two are its signals (one place
    back, then one on); then, hop by hop, its copies' landings at the next device, the query weights' first. -/
def tgt (c : Dev nD) : ℕ → Ck × Dev nD
  | 7 => (none, prv c)
  | 6 => (none, nxt c)
  | 5 => (some (true, false, 0), nxt c)
  | 4 => (some (true, true, 0), nxt c)
  | 3 => (some (true, false, 1), nxt c)
  | 2 => (some (true, true, 1), nxt c)
  | 1 => (some (true, false, 2), nxt c)
  | _ => (some (true, true, 2), nxt c)
abbrev tgtCell (c : Dev nD) (k : ℕ) : GSem nD τ sig := kcell ((tgt c k).2, (tgt c k).1)
/-- What is left to pay when `n` payments are. -/
def owe (c : Dev nD) : ℕ → CellTallies nD τ sig Unit
  | 0 => 0
  | n + 1 => owe c n + tallyAt (tgtCell c n) () (unitsOf (tgt c n).1)

/-- Every cell of a TensorCore has the one level index. -/
def L (g : GSem nD τ sig) : Finset Unit := if g.1.2 = .tc then {()} else ∅
def lvOf : Ck → ℕ | none => 1 | some (false, _, _) => 0 | some (true, _, h) => 2 + h.val
/-- The barrier cells at 1, the receive cells of hop `h` at `2 + h`, every other cell at 0. -/
def lv (g : GSem nD τ sig) (_ : Unit) : ℕ := Function.extend sm lvOf (fun _ => 0) g.2

theorem L_of_ne (g : GSem nD τ sig) (h : g.1.2 ≠ .tc) : L g = ∅ := if_neg h
theorem L_tc (c : Dev nD) (s : SemLoc sig) : L ((c : Thread nD τ), s) = {()} := if_pos rfl
theorem lv_cell (c : Dev nD) (k : Ck) (u : Unit) : lv (kcell (c, k)) u = lvOf k := sm_inj.extend_apply _ _ k
theorem lv_other (c : Dev nD) (s : SemLoc sig) (hs : ∀ k, sm k ≠ s) (u : Unit) : lv ((c : Thread nD τ), s) u = 0 :=
  Function.extend_apply' _ _ _ fun ⟨k, hk⟩ => hs k hk

theorem owe_pos {c : Dev nD} {n : ℕ} {g : GSem nD τ sig} {u : Unit} (h : 0 < owe c n g u) : ∃ k < n, g = tgtCell c k := by
  induction n with
  | zero => exact absurd h (Nat.lt_irrefl 0)
  | succ n ih =>
    unfold owe at h
    rw [Pi.add_apply, Finsupp.add_apply, tallyAt_apply] at h
    by_cases hg : g = tgtCell c n ∧ u = ()
    · exact ⟨n, Nat.lt_succ_self n, hg.1⟩
    · rw [if_neg hg, Nat.add_zero] at h
      obtain ⟨k, hk, e⟩ := ih h
      exact ⟨k, Nat.lt_succ_of_lt hk, e⟩

/-- A device that owes its last `n` payments may wait on a cell all of them lie above. -/
theorem mayWait (c : Dev nD) (s : SemLoc sig) (n : ℕ) (hl : ∀ k < n, lv ((c : Thread nD τ), s) () < lvOf (tgt c k).1) :
    (levAts L lv : sProp 𝕄) ⊢ MayWait (c : Thread nD τ) s () (owe c n) :=
  MayOwe.of_cut (L := L) (lev := lv) (lv ((c : Thread nD τ), s) ()) (fun p hp => by rw [Finset.mem_singleton.mp hp, L_tc]; exact Finset.mem_singleton_self _)
    (fun g u hg => by obtain ⟨k, -, rfl⟩ := owe_pos hg; exact Finset.mem_singleton_self _)
    (fun p hp => by rw [Finset.mem_singleton.mp hp])
    (fun g u hg => by obtain ⟨k, hk, rfl⟩ := owe_pos hg; rw [lv_cell]; exact hl k hk)

/-- A wait on a cell that isn't the ring's. -/
theorem mayWait_local (c : Dev nD) (s : SemLoc sig) (n : ℕ) (hs : ∀ k, sm k ≠ s) :
    (levAts L lv : sProp 𝕄) ⊢ MayWait (c : Thread nD τ) s () (owe c n) :=
  mayWait c s n fun k _ => by
    rw [lv_other c s hs]; unfold tgt; split <;> simp [lvOf]

end Cert.Attn
-- ==== Proof.State.lean ====
/-
What a device holds at a stage of its run, and how one family of resources moves on.

A stage is a handful of counters: how many plane copies of keys and of values have been started and waited for, how far
the barrier is, and per communication buffer how many hops were sent, waited for at the sender and at the receiver.
-/
module

public import proofs.«01_k».proof.Proof.Sched

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family with one member replaced: take the member out, put its successor in. -/
theorem family_step {M : Type} [URA M] {I : Type} [Fintype I] [DecidableEq I] (Φ Ψ : I → sProp M) (i : I) (h : ∀ j, j ≠ i → Φ j = Ψ j) :
    BI.bigSep Finset.univ Φ ⊢ iprop(Φ i ∗ (Ψ i -∗ BI.bigSep Finset.univ Ψ)) := by
  rw [bigSep_univ_at Φ i, bigSep_univ_at Ψ i,
    bigSep_congr (s := Finset.univ.erase i) (fun j hj => h j (Finset.ne_of_mem_erase hj))]
  iintro ⟨Hi, Hr⟩
  isplitl [Hi]; · iexact Hi
  iintro Hi
  isplitl [Hi] <;> iassumption

/-! ## The plane copies -/

/-- The share of the whole keys or values one copy reads at. -/
abbrev ptok (h : Fin 4) (hh : Fin 8) : PosShare TreeShare := Transfers.shareTok fullShare 32 (pix h hh)
/-- What a plane copy reads. -/
def lsrc (b : Bool) (c : Dev nD) (h : Fin 4) (hh : Fin 8) : sProp 𝕄 :=
  (psrc b c h hh).view.loc (c : Thread nD τ) ↦[(psrc b c h hh).view.set]{ptok h hh} kv m b c
/-- The plane pair it writes, holding `f`. -/
def ldst (b : Bool) (c : Dev nD) (h : Fin 4) (hh : Fin 8) (f : Buf (Elt F) ((piece b h hh).view.loc (c : Thread nD τ))) : sProp 𝕄 :=
  (piece b h hh).view.loc (c : Thread nD τ) ↦[(piece b h hh).view.set]{fullShare} f
/-- The credit of a plane copy. -/
abbrev NP : ℕ := (piece false 0 0).view.dmaCredit
theorem NP_pos : 0 < NP := View.dmaCredit_pos _ (by decide)

def lfree (b : Bool) (c : Dev nD) (h : Fin 4) (hh : Fin 8) : sProp 𝕄 :=
  iprop(lsrc m b c h hh ∗ (∃ f, ldst b c h hh f) ∗ semVal ((c : Thread nD τ), .dma (psem b h hh)) 0)
def lflying (b : Bool) (c : Dev nD) (h : Fin 4) (hh : Fin 8) : sProp 𝕄 :=
  iprop(∃ f : Buf (Elt F) ((piece b h hh).view.loc (c : Thread nD τ)), Transfers.Flight EC (c : Thread nD τ) (.dma (psem b h hh)) () NP
    iprop(((piece b h hh).view.loc (c : Thread nD τ) ↦[(piece b h hh).view.set]{fullShare}
        ((piece b h hh).view.write (Elt F) f ((psrc b c h hh).view.read (Elt F) (kv m b c)) Finset.univ))
      ∗ ((psrc b c h hh).view.loc (c : Thread nD τ) ↦[(psrc b c h hh).view.set]{ptok h hh} kv m b c)))
def lland (b : Bool) (c : Dev nD) (h : Fin 4) (hh : Fin 8) : sProp 𝕄 :=
  iprop(ldst b c h hh (chC m b c) ∗ semVal ((c : Thread nD τ), .dma (psem b h hh)) 0)

/-- One copy's resources when `s` copies have been started and `w` waited for. -/
def laneEl (b : Bool) (c : Dev nD) (s w : ℕ) (p : Fin 4 × Fin 8) : sProp 𝕄 :=
  if (pix p.1 p.2).val < w then lland m b c p.1 p.2 else if (pix p.1 p.2).val < s then lflying m b c p.1 p.2 else lfree m b c p.1 p.2
/-- All of them. -/
def lane (b : Bool) (c : Dev nD) (s w : ℕ) : sProp 𝕄 := BI.bigSep Finset.univ (laneEl m b c s w)

theorem pix_inj {p q : Fin 4 × Fin 8} (h : (pix p.1 p.2).val = (pix q.1 q.2).val) : p = q := by
  obtain ⟨a, b⟩ := p; obtain ⟨a', b'⟩ := q
  have h' : 8 * a.val + b.val = 8 * a'.val + b'.val := h
  exact Prod.ext (Fin.ext (by show a.val = a'.val; omega)) (Fin.ext (by show b.val = b'.val; omega))

/-- The next copy to start, and the lane once it flies. -/
theorem lane_next (b : Bool) (c : Dev nD) (s w : ℕ) (h : Fin 4) (hh : Fin 8) (hs : 8 * h.val + hh.val = s) (hw : w ≤ s) :
    lane m b c s w ⊢ iprop(lfree m b c h hh ∗ (lflying m b c h hh -∗ lane m b c (s + 1) w)) := by
  have hp : (pix h hh).val = s := hs
  have e1 : laneEl m b c s w (h, hh) = lfree m b c h hh := by
    unfold laneEl; dsimp only; rw [if_neg (by omega), if_neg (by omega)]
  have e2 : laneEl m b c (s + 1) w (h, hh) = lflying m b c h hh := by
    unfold laneEl; dsimp only; rw [if_neg (by omega), if_pos (by omega)]
  unfold lane
  refine (family_step (laneEl m b c s w) (laneEl m b c (s + 1) w) (h, hh) fun q hq => ?_).trans (by rw [e1, e2])
  have : (pix q.1 q.2).val ≠ s := fun e => hq (pix_inj (e.trans hp.symm))
  unfold laneEl
  by_cases a : (pix q.1 q.2).val < w
  · rw [if_pos a, if_pos a]
  · rw [if_neg a, if_neg a]
    by_cases a' : (pix q.1 q.2).val < s
    · rw [if_pos a', if_pos (by omega)]
    · rw [if_neg a', if_neg (by omega)]

/-- The next copy to wait for, and the lane once it landed. -/
theorem lane_wait (b : Bool) (c : Dev nD) (s w : ℕ) (h : Fin 4) (hh : Fin 8) (hs : 8 * h.val + hh.val = w) (hw : w < s) :
    lane m b c s w ⊢ iprop(lflying m b c h hh ∗ (lland m b c h hh -∗ lane m b c s (w + 1))) := by
  have hp : (pix h hh).val = w := hs
  have e1 : laneEl m b c s w (h, hh) = lflying m b c h hh := by
    unfold laneEl; dsimp only; rw [if_neg (by omega), if_pos (by omega)]
  have e2 : laneEl m b c s (w + 1) (h, hh) = lland m b c h hh := by
    unfold laneEl; dsimp only; rw [if_pos (by omega)]
  unfold lane
  refine (family_step (laneEl m b c s w) (laneEl m b c s (w + 1)) (h, hh) fun q hq => ?_).trans (by rw [e1, e2])
  have : (pix q.1 q.2).val ≠ w := fun e => hq (pix_inj (e.trans hp.symm))
  unfold laneEl
  by_cases a : (pix q.1 q.2).val < w
  · rw [if_pos a, if_pos (by omega)]
  · rw [if_neg a, if_neg (by omega : ¬ (pix q.1 q.2).val < w + 1)]

/-- A landed plane pair, to be read and put back. -/
theorem lane_look (b : Bool) (c : Dev nD) (s w : ℕ) (h : Fin 4) (hh : Fin 8) (hs : 8 * h.val + hh.val < w) :
    lane m b c s w ⊢ iprop(lland m b c h hh ∗ (lland m b c h hh -∗ lane m b c s w)) := by
  have e1 : laneEl m b c s w (h, hh) = lland m b c h hh := by
    unfold laneEl; dsimp only; rw [if_pos hs]
  unfold lane
  exact (family_step (laneEl m b c s w) (laneEl m b c s w) (h, hh) fun q hq => rfl).trans (by rw [e1])

/-! ## The two communication buffers -/

/-- The share of slot `j` at hand: all of it, or half while its copy is in flight. -/
def share (s ws : ℕ) (j : Fin 4) : PosShare TreeShare := if ws ≤ j.val ∧ j.val < s then hL else fullShare

/-- Slot `j` when hops up to `s` are sent, `ws` waited for as sender, `wr` as receiver; `own`: the slots haven't been handed
    to the previous device; `st`: slot 0 is stored. -/
def slotEl (b : Bool) (c : Dev nD) (own st : Bool) (s ws wr : ℕ) (j : Fin 4) : sProp 𝕄 :=
  if j.val = 0 then (if st then pts m b j (share s ws j) c else anyPts b j c)
  else if own then anyPts b j c else if j.val ≤ wr then pts m b j (share s ws j) c else iprop(emp)

/-- The sending side of hop `h`; `bar`: past the barrier, the next device's slots are at hand. -/
def sendEl (b : Bool) (c : Dev nD) (bar : Bool) (s ws : ℕ) (h : Fin 3) : sProp 𝕄 :=
  if h.val < ws then semVal (sendCell b h c) 0
  else if h.val < s then iprop(cred (tallyAt (sendCell b h c) () (N b)) ∗ atPos ER (sendCell b h c) 0 ∅ 0)
  else iprop((atPos ER (sendCell b h c) 0 ∅ 0 ∗ dutyTok ER (sendCell b h c) 0 false ∗ dutyTok ER (recvCell b h (nxt c)) 0 false)
    ∗ (if bar then anyPts b h.succ (nxt c) else iprop(emp)))

/-- The receiving side of hop `h`. -/
def recvEl (b : Bool) (c : Dev nD) (wr : ℕ) (h : Fin 3) : sProp 𝕄 :=
  if h.val < wr then semVal (recvCell b h c) 0
  else iprop(cred (tallyAt (recvCell b h c) () (N b)) ∗ atPos ER (recvCell b h c) 0 ∅ 0)

def slots (b : Bool) (c : Dev nD) (own st : Bool) (s ws wr : ℕ) : sProp 𝕄 := BI.bigSep Finset.univ (slotEl m b c own st s ws wr)
def sends (b : Bool) (c : Dev nD) (bar : Bool) (s ws : ℕ) : sProp 𝕄 := BI.bigSep Finset.univ (sendEl (F := F) b c bar s ws)
def recvs (b : Bool) (c : Dev nD) (wr : ℕ) : sProp 𝕄 := BI.bigSep Finset.univ (recvEl (F := F) b c wr)

/-- Everything of one communication buffer. -/
def half (b : Bool) (c : Dev nD) (own st bar : Bool) (s ws wr : ℕ) : sProp 𝕄 :=
  iprop(slots m b c own st s ws wr ∗ sends b c bar s ws ∗ recvs b c wr)

/-! ## The barrier -/

/-- The barrier's resources: nothing done yet; the previous device signalled; the next one too; waited. -/
def barSt (c : Dev nD) : ℕ → sProp 𝕄
  | 0 => iprop(atPos ER (barCell c) 0 ∅ 0 ∗ cred (tallyAt (barCell c) () 2) ∗ dutyTok ER (barCell (nxt c)) 0 false ∗ dutyTok ER (barCell (prv c)) 0 true)
  | 1 => iprop(atPos ER (barCell c) 0 ∅ 0 ∗ cred (tallyAt (barCell c) () 2) ∗ dutyTok ER (barCell (nxt c)) 0 false)
  | 2 => iprop(atPos ER (barCell c) 0 ∅ 0 ∗ cred (tallyAt (barCell c) () 2))
  | _ => semVal (barCell c) 0

/-! ## What stays and what is common -/

/-- The cells' invariants and that each is at its round 0. -/
def recs : sProp 𝕄 :=
  iprop(∃ K : Dev nD × Ck → ℕ, BI.bigSep Finset.univ fun ck : Dev nD × Ck => iprop(cellInv ER (Rd m) (K ck) (kcell ck) ∗ reached ER (kcell ck) 0))
instance recs_persistent : BI.Persistent (recs (F := F) m) := by unfold recs; infer_instance

theorem recs_cell (c : Dev nD) (k : Ck) : recs m ⊢ iprop(∃ κ, cellInv ER (Rd m) κ (kcell (c, k)) ∗ reached ER (kcell (c, k)) 0) := by
  unfold recs
  iintro ⟨%K, H⟩
  iexists (K (c, k))
  ihave Hc := (show (BI.bigSep Finset.univ fun ck : Dev nD × Ck => iprop(cellInv ER (Rd m) (K ck) (kcell ck) ∗ reached ER (kcell ck) 0))
    ⊢ iprop(cellInv ER (Rd m) (K (c, k)) (kcell (c, k)) ∗ reached ER (kcell (c, k)) 0) from BI.bigSep_elim (Finset.mem_univ (c, k))) $$ H
  iexact Hc

/-- What is still to pay when `n` payments are. -/
def debt (c : Dev nD) (n : ℕ) : sProp 𝕄 := iprop(∃ W : Waits sig Unit, owes (c : Thread nD τ) (owe c n) W)

/-- The three staged inputs. -/
def inputs (c : Dev nD) : sProp 𝕄 :=
  iprop((((c : Thread nD τ).loc cc0_stg0_0) ↦{fullShare} xIn m c) ∗ (((c : Thread nD τ).loc cc0_stg1_0) ↦{fullShare} wqIn m c)
    ∗ (((c : Thread nD τ).loc cc0_stg2_0) ↦{fullShare} woIn m c))

abbrev outM : Memref sig .tc .vmem S2x512x768 .f32 := Memref.whole cc0_stg3_0
theorem inbOut (r : Fin 2) : ∀ a, (![r.val, 0, 0] : Fin 3 → Nat) a + S1x512x768.size a ≤ S2x512x768.size a := by revert r; decide
abbrev rectOut (r : Fin 2) : Rect S2x512x768 := Rect.unit (s := S2x512x768) ![r.val, 0, 0] S1x512x768.size (inbOut r)
/-- The output's staging buffer, its two batch rows holding `o0` and `o1`. -/
def outSt (c : Dev nD) (o0 o1 : Vec F S1x512x768 .f32) : sProp 𝕄 :=
  iprop(∃ f : (cc0_stg3_0 : Ref sig .tc).ty.Contents (Elt F), ⌜(outM : Memref sig .tc .vmem S2x512x768 .f32).view.readAt (Elt F) (rectOut 0).toLoadRect f = o0
      ∧ (outM : Memref sig .tc .vmem S2x512x768 .f32).view.readAt (Elt F) (rectOut 1).toLoadRect f = o1⌝
    ∗ (((c : Thread nD τ).loc cc0_stg3_0) ↦{fullShare} f))

/-- A device's resources at a stage. -/
def St (c : Dev nD) (sk wk sv wv ph : ℕ) (tq : Bool) (sq wq rq : ℕ) (uo : Bool) (so wo ro ow : ℕ) (o0 o1 : Vec F S1x512x768 .f32) : sProp 𝕄 :=
  iprop(recs m ∗ levAts L lv ∗ lane m false c sk wk ∗ lane m true c sv wv ∗ barSt c ph
    ∗ half m false c (decide (ph = 0)) tq (decide (ph = 3)) sq wq rq ∗ half m true c (decide (ph = 0)) uo (decide (ph = 3)) so wo ro
    ∗ debt c ow ∗ inputs m c ∗ outSt c o0 o1)

end Cert.Attn
-- ==== Proof.Lanes.lean ====
/-
The plane copies' steps: a start, a wait, and a load of a landed plane.
-/
module

public import proofs.«01_k».proof.Proof.State

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The weakest precondition of a stretch of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem lane_start_rule (b : Bool) (c : Dev nD) (s w : ℕ) (h : Fin 4) (hh : Fin 8) (hs : 8 * h.val + hh.val = s) (hw : w ≤ s)
    {h1 : (psrc b c h hh).view.WordExact} {h2 : (piece b h hh).view.WordExact}
    {h3 : (DmaTarget.here (nD := nD) (τ := τ) (p := (.tc : Proc τ)) (piece b h hh)).Typed .hbm (.dma (psem b h hh))}
    {α : Type} {Q : α → sProp 𝕄} {k : PUnit → Prog (TpuEff nD τ sig (Elt F) Λ₀ .tc) α} :
    lane m b c s w ⊢ iprop((lane m b c (s + 1) w -∗ WP c (k ⟨⟩) Q)
      -∗ WP c (.op (.enqueueDma (psrc b c h hh) (.here (piece b h hh)) (.dma (psem b h hh)) h1 h2 h3) k) Q) := by
  iintro Hl Hk
  ihave Hl := (lane_next m b c s w h hh hs hw) $$ Hl
  unfold lfree lsrc ldst
  icases Hl with ⟨⟨Hs, ⟨%f, Hd⟩, Hv⟩, Hback⟩
  iapply (Transfers.wp_dmaLocal (via := .same) EC 𝒱₀ (c : Thread nD τ) none () NP (by cases b <;> rfl) NP_pos (Finset.Subset.refl _)) $$ [Hs Hd Hv]
  · isplitl [Hs]; · iexact Hs
    isplitl [Hd]; · iexact Hd
    iexact Hv
  iintro Hf
  iapply Hk
  iapply Hback
  unfold lflying
  iexists f
  iexact Hf

theorem lane_wait_rule (b : Bool) (c : Dev nD) (s w ow : ℕ) (h : Fin 4) (hh : Fin 8) (hs : 8 * h.val + hh.val = w) (hw : w < s)
    {h1 : (psrc b c h hh).view.WordExact} {h2 : (piece b h hh).view.WordExact}
    {α : Type} {Q : α → sProp 𝕄} {k : PUnit → Prog (TpuEff nD τ sig (Elt F) Λ₀ .tc) α} :
    iprop(lane m b c s w ∗ levAts L lv ∗ debt c ow) ⊢ iprop(((lane m b c s (w + 1) ∗ debt c ow) -∗ WP c (k ⟨⟩) Q)
      -∗ WP c (.op (.waitDma2 (psem b h hh) (psrc b c h hh) (piece b h hh) h1 h2) k) Q) := by
  iintro ⟨Hl, Hlev, Hd⟩ Hk
  ihave Hl := (lane_wait m b c s w h hh hs hw) $$ Hl
  unfold lflying debt
  icases Hl with ⟨⟨%f, Hf⟩, Hback⟩
  icases Hd with ⟨%W, HO⟩
  iapply (Transfers.wp_waitLocalO EC 𝒱₀ (c : Thread nD τ) none () (N := NP) (by cases b <;> rfl)) $$ [Hf HO Hlev]
  · isplitl [Hf]; · iexact Hf
    isplitl [HO]; · iexact HO
    iapply (mayWait_local c (.dma (psem b h hh)) ow fun k => psem_not_sm b h hh k)
    iexact Hlev
  iintro ⟨⟨Hd, -⟩, Hv, HO⟩
  iapply Hk
  isplitr [HO]
  · iapply Hback
    unfold lland ldst
    ihave Hd := (Entails.of_eq (pointsTo_congr (landed_piece m b c h hh f))) $$ Hd
    isplitl [Hd]; · iexact Hd
    iexact Hv
  · iexists _
    iexact HO

end Cert.Attn
-- ==== Proof.Hops.lean ====
/-
The remote copies' steps: a send, the two waits it ends in, and the loads of a slot.
-/
module

public import proofs.«01_k».proof.Proof.Lanes

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One buffer's resources, opened for one hop -/

/-- A slot that holds its contents. -/
theorem slotEl_filled (b : Bool) (c : Dev nD) (s ws wr : ℕ) (j : Fin 4) (hj : j.val ≤ wr) {q : PosShare TreeShare} (hq : share s ws j = q) :
    slotEl m b c false true s ws wr j = pts m b j q c := by
  unfold slotEl
  rw [hq]
  by_cases h0 : j.val = 0
  · rw [if_pos h0]; rfl
  · rw [if_neg h0, if_neg (by decide), if_pos hj]

/-- The next hop to send: its slot (half of it goes along), the next device's slot, the two duties. -/
theorem half_send (b : Bool) (c : Dev nD) (s ws wr : ℕ) (h : Fin 3) (hs : h.val = s) (hws : ws ≤ s) (hwr : s ≤ wr) :
    half m b c false true true s ws wr ⊢ iprop(pts m b h.castSucc hR c ∗ anyPts b h.succ (nxt c)
      ∗ dutyTok ER (sendCell b h c) 0 false ∗ dutyTok ER (recvCell b h (nxt c)) 0 false
      ∗ (cred (tallyAt (sendCell b h c) () (N b)) -∗ half m b c false true true (s + 1) ws wr)) := by
  have hv : h.castSucc.val = s := hs
  have e1 : slotEl m b c false true s ws wr h.castSucc = pts m b h.castSucc fullShare c := by
    exact slotEl_filled m b c _ _ _ _ (by omega) (by unfold share; rw [if_neg (by omega)])
  have e2 : slotEl m b c false true (s + 1) ws wr h.castSucc = pts m b h.castSucc hL c := by
    exact slotEl_filled m b c _ _ _ _ (by omega) (by unfold share; rw [if_pos (by omega)])
  have e3 : sendEl (F := F) b c true s ws h = iprop((atPos ER (sendCell b h c) 0 ∅ 0 ∗ dutyTok ER (sendCell b h c) 0 false ∗ dutyTok ER (recvCell b h (nxt c)) 0 false)
      ∗ anyPts b h.succ (nxt c)) := by
    unfold sendEl; rw [if_neg (by omega), if_neg (by omega)]; rfl
  have e4 : sendEl (F := F) b c true (s + 1) ws h = iprop(cred (tallyAt (sendCell b h c) () (N b)) ∗ atPos ER (sendCell b h c) 0 ∅ 0) := by
    unfold sendEl; rw [if_neg (by omega), if_pos (by omega)]
  have st1 : slots m b c false true s ws wr ⊢ iprop(pts m b h.castSucc fullShare c ∗ (pts m b h.castSucc hL c -∗ slots m b c false true (s + 1) ws wr)) := by
    unfold slots
    refine (family_step (slotEl m b c false true s ws wr) (slotEl m b c false true (s + 1) ws wr) h.castSucc fun j hj => ?_).trans (by rw [e1, e2])
    have : j.val ≠ s := fun e => hj (Fin.ext (e.trans hv.symm))
    unfold slotEl share
    rw [if_congr (show (ws ≤ j.val ∧ j.val < s) ↔ (ws ≤ j.val ∧ j.val < s + 1) by omega) rfl rfl]
  have st2 : sends (F := F) b c true s ws ⊢ iprop(((atPos ER (sendCell b h c) 0 ∅ 0 ∗ dutyTok ER (sendCell b h c) 0 false ∗ dutyTok ER (recvCell b h (nxt c)) 0 false)
      ∗ anyPts b h.succ (nxt c)) ∗ ((cred (tallyAt (sendCell b h c) () (N b)) ∗ atPos ER (sendCell b h c) 0 ∅ 0) -∗ sends b c true (s + 1) ws)) := by
    unfold sends
    refine (family_step (sendEl (F := F) b c true s ws) (sendEl b c true (s + 1) ws) h fun j hj => ?_).trans (by rw [e3, e4])
    have : j.val ≠ s := fun e => hj (Fin.ext (e.trans hs.symm))
    unfold sendEl
    by_cases a : j.val < ws
    · rw [if_pos a, if_pos a]
    · rw [if_neg a, if_neg a]
      by_cases a' : j.val < s
      · rw [if_pos a', if_pos (by omega)]
      · rw [if_neg a', if_neg (by omega : ¬ j.val < s + 1)]
  have sp : pts m b h.castSucc fullShare c ⊢ iprop(pts m b h.castSucc hL c ∗ pts m b h.castSucc hR c) := by
    unfold pts; exact (pointsTo_share (PosShare.mem_left_op_right _)).1
  unfold half
  iintro ⟨Hsl, Hse, Hre⟩
  ihave Hsl := st1 $$ Hsl
  icases Hsl with ⟨Hp, Hsl⟩
  ihave Hp := sp $$ Hp
  icases Hp with ⟨HpL, HpR⟩
  ihave Hse := st2 $$ Hse
  icases Hse with ⟨⟨⟨Hat, Hd1, Hd2⟩, Hn⟩, Hse⟩
  isplitl [HpR]; · iexact HpR
  isplitl [Hn]; · iexact Hn
  isplitl [Hd1]; · iexact Hd1
  isplitl [Hd2]; · iexact Hd2
  iintro Hc
  isplitl [Hsl HpL]; · iapply Hsl; iexact HpL
  isplitl [Hse Hat Hc]
  · iapply Hse
    isplitl [Hc] <;> iassumption
  iexact Hre

/-- The next sent hop to wait for: its credit and position; the half of the slot comes back, and the counter at zero. -/
theorem half_sent (b : Bool) (c : Dev nD) (s ws wr : ℕ) (h : Fin 3) (hs : h.val = ws) (hws : ws < s) (hwr : ws ≤ wr) :
    half m b c false true true s ws wr ⊢ iprop(cred (tallyAt (sendCell b h c) () (N b)) ∗ atPos ER (sendCell b h c) 0 ∅ 0
      ∗ ((pts m b h.castSucc hR c ∗ semVal (sendCell b h c) 0) -∗ half m b c false true true s (ws + 1) wr)) := by
  have hv : h.castSucc.val = ws := hs
  have e1 : slotEl m b c false true s ws wr h.castSucc = pts m b h.castSucc hL c := by
    exact slotEl_filled m b c _ _ _ _ (by omega) (by unfold share; rw [if_pos (by omega)])
  have e2 : slotEl m b c false true s (ws + 1) wr h.castSucc = pts m b h.castSucc fullShare c := by
    exact slotEl_filled m b c _ _ _ _ (by omega) (by unfold share; rw [if_neg (by omega)])
  have e3 : sendEl (F := F) b c true s ws h = iprop(cred (tallyAt (sendCell b h c) () (N b)) ∗ atPos ER (sendCell b h c) 0 ∅ 0) := by
    unfold sendEl; rw [if_neg (by omega), if_pos (by omega)]
  have e4 : sendEl (F := F) b c true s (ws + 1) h = semVal (sendCell b h c) 0 := by
    unfold sendEl; rw [if_pos (by omega)]
  have st1 : slots m b c false true s ws wr ⊢ iprop(pts m b h.castSucc hL c ∗ (pts m b h.castSucc fullShare c -∗ slots m b c false true s (ws + 1) wr)) := by
    unfold slots
    refine (family_step (slotEl m b c false true s ws wr) (slotEl m b c false true s (ws + 1) wr) h.castSucc fun j hj => ?_).trans (by rw [e1, e2])
    have : j.val ≠ ws := fun e => hj (Fin.ext (e.trans hv.symm))
    unfold slotEl share
    rw [if_congr (show (ws ≤ j.val ∧ j.val < s) ↔ (ws + 1 ≤ j.val ∧ j.val < s) by omega) rfl rfl]
  have st2 : sends (F := F) b c true s ws ⊢ iprop((cred (tallyAt (sendCell b h c) () (N b)) ∗ atPos ER (sendCell b h c) 0 ∅ 0)
      ∗ (semVal (sendCell b h c) 0 -∗ sends b c true s (ws + 1))) := by
    unfold sends
    refine (family_step (sendEl (F := F) b c true s ws) (sendEl b c true s (ws + 1)) h fun j hj => ?_).trans (by rw [e3, e4])
    have : j.val ≠ ws := fun e => hj (Fin.ext (e.trans hs.symm))
    unfold sendEl
    by_cases a : j.val < ws
    · rw [if_pos a, if_pos (by omega)]
    · rw [if_neg a, if_neg (by omega : ¬ j.val < ws + 1)]
  have sp : iprop(pts m b h.castSucc hL c ∗ pts m b h.castSucc hR c) ⊢ pts m b h.castSucc fullShare c := by
    unfold pts; exact (pointsTo_share (PosShare.mem_left_op_right _)).2
  unfold half
  iintro ⟨Hsl, Hse, Hre⟩
  ihave Hsl := st1 $$ Hsl
  icases Hsl with ⟨HpL, Hsl⟩
  ihave Hse := st2 $$ Hse
  icases Hse with ⟨⟨Hc, Hat⟩, Hse⟩
  isplitl [Hc]; · iexact Hc
  isplitl [Hat]; · iexact Hat
  iintro ⟨HpR, Hv⟩
  isplitl [Hsl HpL HpR]
  · iapply Hsl; iapply sp
    isplitl [HpL] <;> iassumption
  isplitl [Hse Hv]; · iapply Hse; iexact Hv
  iexact Hre

/-- The next hop to receive: its credit and position; the slot it fills comes, and the counter at zero. -/
theorem half_recv (b : Bool) (c : Dev nD) (s ws wr : ℕ) (h : Fin 3) (hs : h.val = wr) (hwr : s ≤ wr + 1) :
    half m b c false true true s ws wr ⊢ iprop(cred (tallyAt (recvCell b h c) () (N b)) ∗ atPos ER (recvCell b h c) 0 ∅ 0
      ∗ ((pts m b h.succ fullShare c ∗ semVal (recvCell b h c) 0) -∗ half m b c false true true s ws (wr + 1))) := by
  have hv : h.succ.val = wr + 1 := by rw [Fin.val_succ, hs]
  have e1 : slotEl m b c false true s ws wr h.succ = iprop(emp) := by
    unfold slotEl; rw [if_neg (by omega), if_neg (by decide), if_neg (by omega)]
  have e2 : slotEl m b c false true s ws (wr + 1) h.succ = pts m b h.succ fullShare c := by
    exact slotEl_filled m b c _ _ _ _ (by omega) (by unfold share; rw [if_neg (by omega)])
  have e3 : recvEl (F := F) b c wr h = iprop(cred (tallyAt (recvCell b h c) () (N b)) ∗ atPos ER (recvCell b h c) 0 ∅ 0) := by
    unfold recvEl; rw [if_neg (by omega)]
  have e4 : recvEl (F := F) b c (wr + 1) h = semVal (recvCell b h c) 0 := by
    unfold recvEl; rw [if_pos (by omega)]
  have st1 : slots m b c false true s ws wr ⊢ iprop(iprop(emp) ∗ (pts m b h.succ fullShare c -∗ slots m b c false true s ws (wr + 1))) := by
    unfold slots
    refine (family_step (slotEl m b c false true s ws wr) (slotEl m b c false true s ws (wr + 1)) h.succ fun j hj => ?_).trans (by rw [e1, e2])
    have : j.val ≠ wr + 1 := fun e => hj (Fin.ext (e.trans hv.symm))
    unfold slotEl
    rw [if_congr (show j.val ≤ wr ↔ j.val ≤ wr + 1 by omega) rfl rfl]
  have st2 : recvs (F := F) b c wr ⊢ iprop((cred (tallyAt (recvCell b h c) () (N b)) ∗ atPos ER (recvCell b h c) 0 ∅ 0)
      ∗ (semVal (recvCell b h c) 0 -∗ recvs b c (wr + 1))) := by
    unfold recvs
    refine (family_step (recvEl (F := F) b c wr) (recvEl b c (wr + 1)) h fun j hj => ?_).trans (by rw [e3, e4])
    have : j.val ≠ wr := fun e => hj (Fin.ext (e.trans hs.symm))
    unfold recvEl
    rw [if_congr (show j.val < wr ↔ j.val < wr + 1 by omega) rfl rfl]
  unfold half
  iintro ⟨Hsl, Hse, Hre⟩
  ihave Hsl := st1 $$ Hsl
  icases Hsl with ⟨-, Hsl⟩
  ihave Hre := st2 $$ Hre
  icases Hre with ⟨⟨Hc, Hat⟩, Hre⟩
  isplitl [Hc]; · iexact Hc
  isplitl [Hat]; · iexact Hat
  iintro ⟨Hp, Hv⟩
  isplitl [Hsl Hp]; · iapply Hsl; iexact Hp
  isplitl [Hse]; · iexact Hse
  iapply Hre; iexact Hv

/-- A filled slot, to be read and put back. -/
theorem half_look (b : Bool) (c : Dev nD) (s ws wr : ℕ) (j : Fin 4) (hwr : j.val ≤ wr) :
    half m b c false true true s ws wr ⊢ iprop(pts m b j (share s ws j) c ∗ (pts m b j (share s ws j) c -∗ half m b c false true true s ws wr)) := by
  have e1 : slotEl m b c false true s ws wr j = pts m b j (share s ws j) c := by
    exact slotEl_filled m b c _ _ _ _ hwr rfl
  have st1 : slots m b c false true s ws wr ⊢ iprop(pts m b j (share s ws j) c ∗ (pts m b j (share s ws j) c -∗ slots m b c false true s ws wr)) := by
    unfold slots
    exact (family_step (slotEl m b c false true s ws wr) (slotEl m b c false true s ws wr) j fun _ _ => rfl).trans (by rw [e1])
  unfold half
  iintro ⟨Hsl, Hr⟩
  ihave Hsl := st1 $$ Hsl
  icases Hsl with ⟨Hp, Hsl⟩
  isplitl [Hp]; · iexact Hp
  iintro Hp
  isplitr [Hr]; · iapply Hsl; iexact Hp
  iexact Hr

/-! ## The rules -/

/-- A copy of slot `h` to the next device's slot `h + 1`. -/
theorem send_rule (b : Bool) (c n : Dev nD) (hn : n = nxt c) (s ws wr ow : ℕ) (h : Fin 3) (hs : h.val = s) (hws : ws ≤ s) (hwr : s ≤ wr)
    (how : tgt c ow = (some (true, b, h), nxt c))
    {hsc : (slot b h.succ).view.ref.isScScratch = false}
    {hsrc : (slot b h.castSucc).view.WordExact} {hdst : (slot b h.succ).view.WordExact}
    {hsem : (DmaTarget.remote (p := (.tc : Proc τ)) (Dev.tc n : Thread nD τ) (slot b h.succ) (.dma (ssem b h)) hsc).Typed .vmem (.dma (rsem b h))}
    {α : Type} {Q : α → sProp 𝕄} {k : PUnit → Prog (TpuEff nD τ sig (Elt F) Λ₀ .tc) α} :
    iprop(recs m ∗ half m b c false true true s ws wr ∗ debt c (ow + 1))
      ⊢ iprop(((half m b c false true true (s + 1) ws wr ∗ debt c ow) -∗ WP c (k ⟨⟩) Q)
        -∗ WP c (.op (.enqueueDma (slot b h.castSucc) (.remote (Dev.tc n : Thread nD τ) (slot b h.succ) (.dma (ssem b h)) hsc) (.dma (rsem b h)) hsrc hdst hsem) k) Q) := by
  subst hn
  iintro ⟨#Hr, Hh, Hd⟩ Hk
  ihave H1 := (recs_cell m c (some (false, b, h))) $$ Hr
  icases H1 with ⟨%κ₁, #Hi1, #Hre1⟩
  ihave H2 := (recs_cell m (nxt c) (some (true, b, h))) $$ Hr
  icases H2 with ⟨%κ₂, #Hi2, #Hre2⟩
  ihave Hh := (half_send m b c s ws wr h hs hws hwr) $$ Hh
  unfold anyPts pts debt
  icases Hh with ⟨Hsrc, ⟨%fn, Hdst⟩, Hd1, Hd2, Hback⟩
  icases Hd with ⟨%W, HO⟩
  iapply (Rounds.wp_send_pointsTo 𝒱₀ ER (Rd m) (c : Thread nD τ) none (κ₁ := κ₁) (κ₂ := κ₂)
    (r₁ := 0) (r₂ := 0) (d₁ := false) (d₂ := false) (fd := fn)
    (by rw [duties_cell]; exact Finset.mem_singleton_self _) (by rw [duties_cell]; exact Finset.mem_singleton_self _)
    () () (N b) (by cases b <;> rfl) (amount_cell m c (some (false, b, h)) false) (amount_cell m (nxt c) (some (true, b, h)) false) (owe c ow)
    (by show owe c ow + tallyAt (tgtCell c ow) () (unitsOf (tgt c ow).1) = _; unfold tgtCell; rw [how]; rfl) (W := W)
    (by rw [payload_cell]; unfold pay pts; exact BI.Entails.refl _)
    (by rw [payload_cell]; unfold pay pts; exact Entails.of_eq (pointsTo_congr (landed_slot m b h c fn)))) $$ [Hsrc Hdst HO Hd1 Hd2]
  · isplitr; · iexact Hi1
    isplitr; · iexact Hi2
    isplitl [Hsrc]; · iexact Hsrc
    isplitl [Hdst]; · iexact Hdst
    isplitl [HO]; · iexact HO
    isplitl [Hd1]; · iexact Hd1
    isplitr; · iexact Hre1
    isplitl [Hd2]; · iexact Hd2
    iexact Hre2
  iintro ⟨Hc, HO⟩
  iapply Hk
  isplitl [Hc Hback]; · iapply Hback; iexact Hc
  iexists W; iexact HO

/-- The wait for hop `h`'s copy to have left. -/
theorem sent_rule (b : Bool) (c : Dev nD) (s ws wr ow : ℕ) (h : Fin 3) (hs : h.val = ws) (hws : ws < s) (hwr : ws ≤ wr)
    (how : ∀ k < ow, 0 < lvOf (tgt c k).1) {sps : Space} {ss : Shape} {es : EltTy} {srcw : Memref sig .tc sps ss es}
    {h1 : srcw.view.WordExact} {h2 : (slot b h.castSucc).view.WordExact}
    {α : Type} {Q : α → sProp 𝕄} {k : PUnit → Prog (TpuEff nD τ sig (Elt F) Λ₀ .tc) α} :
    iprop(recs m ∗ levAts L lv ∗ half m b c false true true s ws wr ∗ debt c ow)
      ⊢ iprop(((half m b c false true true s (ws + 1) wr ∗ debt c ow) -∗ WP c (k ⟨⟩) Q)
        -∗ WP c (.op (.waitDma2 (ssem b h) srcw (slot b h.castSucc) h1 h2) k) Q) := by
  iintro ⟨#Hr, #Hlev, Hh, Hd⟩ Hk
  ihave H1 := (recs_cell m c (some (false, b, h))) $$ Hr
  icases H1 with ⟨%κ, #Hi, -⟩
  ihave Hh := (half_sent m b c s ws wr h hs hws hwr) $$ Hh
  unfold debt
  icases Hh with ⟨Hc, Hat, Hback⟩
  icases Hd with ⟨%W, HO⟩
  iapply (Rounds.wp_wait_rest_token 𝒱₀ ER (Rd m) (c : Thread nD τ) none (κ := κ)
      (wpE_waitDma2_eq 𝒱₀ (c : Thread nD τ) none Set.univ) (Set.mem_univ _) () (O := owe c ow) (W := W) (R := 0) (m := 0) (T := ∅)
      (by rw [Nat.zero_add]; exact (Eq.trans (expect_xfer m c false b h) (by cases b <;> rfl)).symm)) $$ [Hc HO Hat]
  · isplitr; · iexact Hi
    isplitl [Hc]; · cases b <;> iexact Hc
    isplitl [HO]; · iexact HO
    isplitr
    · iapply (mayWait c (sm (some (false, b, h))) ow fun k hk => by rw [lv_cell c (some (false, b, h))]; exact how k hk)
      iexact Hlev
    iexact Hat
  iintro ⟨HO, Hat, -, Hpay⟩
  ihave Hp := (Entails.of_eq (rest_xfer m c false b h)) $$ Hpay
  imod (Rounds.cell_close ER (Rd m) (Set.mem_univ κ) (fun h => h) (R := 0 + 1) (duties_later m (sendCell b h c))) $$ [Hat] with Hz
  · isplitr; · iexact Hi
    iexact Hat
  iapply Hk
  isplitl [Hp Hz Hback]
  · iapply Hback
    unfold pay
    isplitl [Hp] <;> iassumption
  iexists _; iexact HO

/-- The wait for hop `h`'s copy to have arrived. -/
theorem recv_rule (b : Bool) (c : Dev nD) (s ws wr ow : ℕ) (h : Fin 3) (hs : h.val = wr) (hwr : s ≤ wr + 1)
    (how : ∀ k < ow, 2 + h.val < lvOf (tgt c k).1) {sps : Space} {ss : Shape} {es : EltTy} {srcw : Memref sig .tc sps ss es}
    {h1 : srcw.view.WordExact} {h2 : (slot b h.succ).view.WordExact}
    {α : Type} {Q : α → sProp 𝕄} {k : PUnit → Prog (TpuEff nD τ sig (Elt F) Λ₀ .tc) α} :
    iprop(recs m ∗ levAts L lv ∗ half m b c false true true s ws wr ∗ debt c ow)
      ⊢ iprop(((half m b c false true true s ws (wr + 1) ∗ debt c ow) -∗ WP c (k ⟨⟩) Q)
        -∗ WP c (.op (.waitDma2 (rsem b h) srcw (slot b h.succ) h1 h2) k) Q) := by
  iintro ⟨#Hr, #Hlev, Hh, Hd⟩ Hk
  ihave H1 := (recs_cell m c (some (true, b, h))) $$ Hr
  icases H1 with ⟨%κ, #Hi, -⟩
  ihave Hh := (half_recv m b c s ws wr h hs hwr) $$ Hh
  unfold debt
  icases Hh with ⟨Hc, Hat, Hback⟩
  icases Hd with ⟨%W, HO⟩
  iapply (Rounds.wp_wait_rest_token 𝒱₀ ER (Rd m) (c : Thread nD τ) none (κ := κ)
      (wpE_waitDma2_eq 𝒱₀ (c : Thread nD τ) none Set.univ) (Set.mem_univ _) () (O := owe c ow) (W := W) (R := 0) (m := 0) (T := ∅)
      (by rw [Nat.zero_add]; exact (Eq.trans (expect_xfer m c true b h) (by cases b <;> rfl)).symm)) $$ [Hc HO Hat]
  · isplitr; · iexact Hi
    isplitl [Hc]; · cases b <;> iexact Hc
    isplitl [HO]; · iexact HO
    isplitr
    · iapply (mayWait c (sm (some (true, b, h))) ow fun k hk => by rw [lv_cell c (some (true, b, h))]; exact how k hk)
      iexact Hlev
    iexact Hat
  iintro ⟨HO, Hat, -, Hpay⟩
  ihave Hp := (Entails.of_eq (rest_xfer m c true b h)) $$ Hpay
  imod (Rounds.cell_close ER (Rd m) (Set.mem_univ κ) (fun h => h) (R := 0 + 1) (duties_later m (recvCell b h c))) $$ [Hat] with Hz
  · isplitr; · iexact Hi
    iexact Hat
  iapply Hk
  isplitl [Hp Hz Hback]
  · iapply Hback
    unfold pay
    isplitl [Hp] <;> iassumption
  iexists _; iexact HO

end Cert.Attn
-- ==== Proof.Start.lean ====
/-
The steps before the first copy leaves: the slots 0 are stored, the two neighbours told, and their word awaited.
-/
module

public import proofs.«01_k».proof.Proof.Hops

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem fin3 {M : Type} [URA M] (Φ : Fin 3 → sProp M) : BI.bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
theorem fin4 {M : Type} [URA M] (Φ : Fin 4 → sProp M) : BI.bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
theorem bool2 {M : Type} [URA M] (Φ : Bool → sProp M) : BI.bigSep Finset.univ Φ = iprop(Φ false ∗ Φ true) := by
  rw [bigSep_univ_eq_bigSepL [false, true] (by decide) (by decide), bigSepL_cons_cons, bigSepL_singleton]; rfl

/-! ## Slot 0 -/

theorem slotQ_acc (j : Fin 4) : ((wqM : Memref sig .tc .vmem S4x768x512 .bf16).access (rectQ j)).set ⊆ (slot false j).view.set := fun i hi =>
  (Finset.ext_iff.mp (Memref.set_view_squeeze (wqM.slice (rectQ j) (fun _ => rfl)) squeezes_S1x768x512_S768x512) i).mpr hi
theorem slotO_acc (j : Fin 4) : ((woM : Memref sig .tc .vmem S4x512x768 .bf16).access (rectO j)).set ⊆ (slot true j).view.set := fun i hi =>
  (Finset.ext_iff.mp (Memref.set_view_squeeze (woM.slice (rectO j) (fun _ => rfl)) squeezes_S1x512x768_S512x768) i).mpr hi
theorem slotQ_acc' (j : Fin 4) : (slot false j).view.set ⊆ ((wqM : Memref sig .tc .vmem S4x768x512 .bf16).access (rectQ j)).set := fun i hi =>
  (Finset.ext_iff.mp (Memref.set_view_squeeze (wqM.slice (rectQ j) (fun _ => rfl)) squeezes_S1x768x512_S768x512) i).mp hi

/-- Slot 0 before it is stored. -/
theorem half_first (b : Bool) (c : Dev nD) (own bar : Bool) (s ws wr : ℕ) (hs : s = 0) :
    half m b c own false bar s ws wr ⊢ iprop(anyPts b 0 c ∗ (anyPts b 0 c -∗ half m b c own false bar s ws wr)) := by
  have e1 : slotEl m b c own false s ws wr 0 = anyPts b 0 c := by unfold slotEl; rw [if_pos (show (0 : Fin 4).val = 0 from rfl)]; rfl
  have st1 : slots m b c own false s ws wr ⊢ iprop(anyPts b 0 c ∗ (anyPts b 0 c -∗ slots m b c own false s ws wr)) := by
    unfold slots
    exact (family_step (slotEl m b c own false s ws wr) (slotEl m b c own false s ws wr) 0 fun _ _ => rfl).trans (by rw [e1])
  unfold half
  iintro ⟨Hsl, Hr⟩
  ihave Hsl := st1 $$ Hsl
  icases Hsl with ⟨Hp, Hsl⟩
  isplitl [Hp]; · iexact Hp
  iintro Hp
  isplitr [Hr]; · iapply Hsl; iexact Hp
  iexact Hr

/-- Slot 0 gets stored. -/
theorem half_store (b : Bool) (c : Dev nD) (own bar : Bool) (ws wr : ℕ) :
    half m b c own false bar 0 ws wr ⊢ iprop(anyPts b 0 c ∗ (pts m b 0 fullShare c -∗ half m b c own true bar 0 ws wr)) := by
  have e1 : slotEl m b c own false 0 ws wr 0 = anyPts b 0 c := by unfold slotEl; rw [if_pos (show (0 : Fin 4).val = 0 from rfl)]; rfl
  have e2 : slotEl m b c own true 0 ws wr 0 = pts m b 0 fullShare c := by
    unfold slotEl share; rw [if_pos (show (0 : Fin 4).val = 0 from rfl), if_pos rfl, if_neg fun h => absurd h.2 (Nat.not_lt_zero _)]
  have st1 : slots m b c own false 0 ws wr ⊢ iprop(anyPts b 0 c ∗ (pts m b 0 fullShare c -∗ slots m b c own true 0 ws wr)) := by
    unfold slots
    refine (family_step (slotEl m b c own false 0 ws wr) (slotEl m b c own true 0 ws wr) 0 fun j hj => ?_).trans (by rw [e1, e2])
    unfold slotEl
    have h0 : ¬ j.val = 0 := fun e => hj (Fin.ext e)
    rw [if_neg h0, if_neg h0]
  unfold half
  iintro ⟨Hsl, Hr⟩
  ihave Hsl := st1 $$ Hsl
  icases Hsl with ⟨Hp, Hsl⟩
  isplitl [Hp]; · iexact Hp
  iintro Hp
  isplitr [Hr]; · iapply Hsl; iexact Hp
  iexact Hr

/-! ## What the signals and the wait move -/

/-- The landing slots of one buffer leave. -/
theorem half_lend (b : Bool) (c : Dev nD) (st bar : Bool) (s ws : ℕ) :
    half m b c true st bar s ws 0 ⊢ iprop(half m b c false st bar s ws 0 ∗ BI.bigSep Finset.univ fun h : Fin 3 => anyPts b h.succ c) := by
  have e : ∀ h : Fin 3, slotEl m b c true st s ws 0 h.succ = anyPts b h.succ c ∧ slotEl m b c false st s ws 0 h.succ = iprop(emp) := by
    intro h
    have h0 : ¬ h.succ.val = 0 := by rw [Fin.val_succ]; omega
    have h1 : ¬ h.succ.val ≤ 0 := by rw [Fin.val_succ]; omega
    unfold slotEl
    exact ⟨by rw [if_neg h0, if_pos rfl], by rw [if_neg h0, if_neg (by decide), if_neg h1]⟩
  have e0 : slotEl m b c true st s ws 0 0 = slotEl m b c false st s ws 0 0 := by
    unfold slotEl
    rw [if_pos (show (0 : Fin 4).val = 0 from rfl), if_pos (show (0 : Fin 4).val = 0 from rfl)]
  unfold half slots
  rw [fin4, fin4, fin3, e0]
  rw [show slotEl m b c true st s ws 0 1 = anyPts b (0 : Fin 3).succ c from (e 0).1, show slotEl m b c true st s ws 0 2 = anyPts b (1 : Fin 3).succ c from (e 1).1,
    show slotEl m b c true st s ws 0 3 = anyPts b (2 : Fin 3).succ c from (e 2).1,
    show slotEl m b c false st s ws 0 1 = iprop(emp) from (e 0).2, show slotEl m b c false st s ws 0 2 = iprop(emp) from (e 1).2,
    show slotEl m b c false st s ws 0 3 = iprop(emp) from (e 2).2]
  iintro ⟨⟨H0, H1, H2, H3⟩, Hr⟩
  isplitr [H1 H2 H3]
  · isplitr [Hr]
    · isplitl [H0]; · iexact H0
      isplitr; · iempintro
      isplitr <;> iempintro
    · iexact Hr
  · isplitl [H1]; · iexact H1
    isplitl [H2]; · iexact H2
    iexact H3

/-- The next device's landing slots arrive. -/
theorem half_borrow (b : Bool) (c : Dev nD) (own st : Bool) (wr : ℕ) :
    iprop(half m b c own st false 0 0 wr ∗ BI.bigSep Finset.univ fun h : Fin 3 => anyPts b h.succ (nxt c)) ⊢ half m b c own st true 0 0 wr := by
  unfold half sends
  have e : ∀ h : Fin 3, iprop(sendEl (F := F) b c false 0 0 h ∗ anyPts b h.succ (nxt c)) ⊢ sendEl b c true 0 0 h := by
    intro h
    unfold sendEl
    rw [if_neg (Nat.not_lt_zero _), if_neg (Nat.not_lt_zero _), if_neg (Nat.not_lt_zero _), if_neg (Nat.not_lt_zero _), if_pos rfl]
    iintro ⟨⟨Ha, -⟩, Hb⟩
    isplitl [Ha]; · iexact Ha
    iexact Hb
  have e' := (Entails.of_eq (bigSep_sep' Finset.univ (sendEl (F := F) b c false 0 0) fun h : Fin 3 => anyPts b h.succ (nxt c)).symm).trans
    (bigSep_mono fun h _ => e h)
  iintro ⟨⟨Hsl, Hse, Hre⟩, Hn⟩
  isplitl [Hsl]; · iexact Hsl
  isplitr [Hre]
  · iapply e'
    isplitl [Hse] <;> iassumption
  iexact Hre

theorem barPay_eq (c : Dev nD) : barPay (F := F) c
    = iprop((BI.bigSep Finset.univ fun h : Fin 3 => anyPts false h.succ (nxt c)) ∗ BI.bigSep Finset.univ fun h : Fin 3 => anyPts true h.succ (nxt c)) := by
  unfold barPay; rw [bigSep_univ_prod, bool2]

theorem barSt_0 (c : Dev nD) : barSt (F := F) c 0 = iprop(atPos ER (barCell c) 0 ∅ 0 ∗ cred (tallyAt (barCell c) () 2)
  ∗ dutyTok ER (barCell (nxt c)) 0 false ∗ dutyTok ER (barCell (prv c)) 0 true) := rfl
theorem barSt_1 (c : Dev nD) : barSt (F := F) c 1 = iprop(atPos ER (barCell c) 0 ∅ 0 ∗ cred (tallyAt (barCell c) () 2)
  ∗ dutyTok ER (barCell (nxt c)) 0 false) := rfl
theorem barSt_2 (c : Dev nD) : barSt (F := F) c 2 = iprop(atPos ER (barCell c) 0 ∅ 0 ∗ cred (tallyAt (barCell c) () 2)) := rfl
theorem barSt_3 (c : Dev nD) : barSt (F := F) c 3 = semVal (barCell c) 0 := rfl

/-- The signal one place back hands over the landing slots. -/
theorem signal_prv (c n : Dev nD) (hn : n = prv c) (tq uo : Bool)
    {α : Type} {Q : α → sProp 𝕄} {k : PUnit → Prog (TpuEff nD τ sig (Elt F) Λ₀ .tc) α} :
    iprop(recs m ∗ barSt c 0 ∗ half m false c true tq false 0 0 0 ∗ half m true c true uo false 0 0 0 ∗ debt c 8)
      ⊢ iprop(((barSt c 1 ∗ half m false c false tq false 0 0 0 ∗ half m true c false uo false 0 0 0 ∗ debt c 7) -∗ WP c (k ⟨⟩) Q)
        -∗ WP c (.op (.semSignal (n, .tc) barS (1#32).toInt) k) Q) := by
  subst hn
  rw [barSt_0, barSt_1]
  unfold debt
  iintro ⟨#Hr, ⟨Hat, Hc, Hd1, Hd2⟩, Hq, Ho, ⟨%W, HO⟩⟩ Hk
  ihave H1 := (recs_cell m (prv c) none) $$ Hr
  icases H1 with ⟨%κ, #Hi, #Hre⟩
  ihave Hq := (half_lend m false c tq false 0 0) $$ Hq
  icases Hq with ⟨Hq, Hq'⟩
  ihave Ho := (half_lend m true c uo false 0 0) $$ Ho
  icases Ho with ⟨Ho, Ho'⟩
  iapply (Rounds.wp_signal 𝒱₀ ER (Rd m) (c : Thread nD τ) none (dst := (prv c : Thread nD τ)) (κ := κ)
      (d := true) (by show true ∈ (Rd m).duties (kcell (prv c, none)) 0; rw [duties_cell]; exact Finset.mem_univ _) ((amount_cell m (prv c) none true).trans (by decide)) () (owe c 7) rfl)
    $$ [HO Hd2 Hq' Ho']
  · isplitr; · iexact Hi
    isplitl [HO]; · iexact HO
    isplitl [Hd2]; · iexact Hd2
    isplitl [Hq' Ho']
    · iapply (Entails.of_eq (payload_cell m (prv c) none true).symm)
      unfold pay
      dsimp only
      rw [if_pos rfl, barPay_eq, nxt_prv]
      isplitl [Hq'] <;> iassumption
    iexact Hre
  iintro HO
  iapply Hk
  isplitl [Hat Hc Hd1]
  · isplitl [Hat]; · iexact Hat
    isplitl [Hc] <;> iassumption
  isplitl [Hq]; · iexact Hq
  isplitl [Ho]; · iexact Ho
  iexists W; iexact HO

/-- The signal one place on hands over nothing. -/
theorem signal_nxt (c n : Dev nD) (hn : n = nxt c)
    {α : Type} {Q : α → sProp 𝕄} {k : PUnit → Prog (TpuEff nD τ sig (Elt F) Λ₀ .tc) α} :
    iprop(recs m ∗ barSt c 1 ∗ debt c 7)
      ⊢ iprop(((barSt c 2 ∗ debt c 6) -∗ WP c (k ⟨⟩) Q)
        -∗ WP c (.op (.semSignal (n, .tc) barS (1#32).toInt) k) Q) := by
  subst hn
  rw [barSt_1, barSt_2]
  unfold debt
  iintro ⟨#Hr, ⟨Hat, Hc, Hd⟩, ⟨%W, HO⟩⟩ Hk
  ihave H1 := (recs_cell m (nxt c) none) $$ Hr
  icases H1 with ⟨%κ, #Hi, #Hre⟩
  iapply (Rounds.wp_signal 𝒱₀ ER (Rd m) (c : Thread nD τ) none (dst := (nxt c : Thread nD τ)) (κ := κ)
      (d := false) (by show false ∈ (Rd m).duties (kcell (nxt c, none)) 0; rw [duties_cell]; exact Finset.mem_univ _) ((amount_cell m (nxt c) none false).trans (by decide)) () (owe c 6) rfl)
    $$ [HO Hd]
  · isplitr; · iexact Hi
    isplitl [HO]; · iexact HO
    isplitl [Hd]; · iexact Hd
    isplitr
    · iapply (Entails.of_eq (payload_cell m (nxt c) none false).symm)
      unfold pay
      dsimp only
      rw [if_neg (by decide)]
      iempintro
    iexact Hre
  iintro HO
  iapply Hk
  isplitl [Hat Hc]
  · isplitl [Hat] <;> iassumption
  iexists W; iexact HO

theorem bar_low (c : Dev nD) : ∀ k < 6, lvOf none < lvOf (tgt c k).1 := by
  intro k hk
  interval_cases k <;> exact Nat.lt_of_lt_of_le (by decide : 1 < 2) (Nat.le_add_right 2 _)

/-- The wait for both neighbours. -/
theorem wait_bar (c : Dev nD) (tq uo : Bool)
    {α : Type} {Q : α → sProp 𝕄} {k : PUnit → Prog (TpuEff nD τ sig (Elt F) Λ₀ .tc) α} :
    iprop(recs m ∗ levAts L lv ∗ barSt c 2 ∗ half m false c false tq false 0 0 0 ∗ half m true c false uo false 0 0 0 ∗ debt c 6)
      ⊢ iprop(((barSt c 3 ∗ half m false c false tq true 0 0 0 ∗ half m true c false uo true 0 0 0 ∗ debt c 6) -∗ WP c (k ⟨⟩) Q)
        -∗ WP c (.op (.semWait barS (2#32).toInt) k) Q) := by
  rw [barSt_2, barSt_3]
  unfold debt
  iintro ⟨#Hr, #Hlev, ⟨Hat, Hc⟩, Hq, Ho, ⟨%W, HO⟩⟩ Hk
  ihave H1 := (recs_cell m c none) $$ Hr
  icases H1 with ⟨%κ, #Hi, -⟩
  iapply (Rounds.wp_wait_rest_token 𝒱₀ ER (Rd m) (c : Thread nD τ) none (κ := κ)
      (wpE_semWait_eq 𝒱₀ (c : Thread nD τ) none Set.univ) (Set.mem_univ _) () (O := owe c 6) (W := W) (R := 0) (m := 0) (T := ∅)
      (by rw [expect_bar]; decide)) $$ [Hc HO Hat]
  · isplitr; · iexact Hi
    isplitl [Hc]; · iexact Hc
    isplitl [HO]; · iexact HO
    isplitr
    · iapply (mayWait c (sm none) 6 fun k hk => by rw [lv_cell c none]; exact bar_low c k hk)
      iexact Hlev
    iexact Hat
  iintro ⟨HO, Hat, -, Hpay⟩
  ihave Hp := (Entails.of_eq ((rest_bar m c).trans (by rw [barPay_eq]))) $$ Hpay
  icases Hp with ⟨-, Hpq, Hpo⟩
  imod (Rounds.cell_close ER (Rd m) (Set.mem_univ κ) (fun h => h) (R := 0 + 1) (duties_later m (barCell c))) $$ [Hat] with Hz
  · isplitr; · iexact Hi
    iexact Hat
  iapply Hk
  isplitl [Hz]; · iexact Hz
  isplitl [Hq Hpq]
  · iapply (half_borrow m false c false tq 0)
    isplitl [Hq] <;> iassumption
  isplitl [Ho Hpo]
  · iapply (half_borrow m true c false uo 0)
    isplitl [Ho] <;> iassumption
  iexists _; iexact HO

end Cert.Attn
-- ==== Proof.Buffers.lean ====
/-
The on-chip buffers cut into the slots and planes the copies move, and put together again; the keys and values dealt to
their readers.
-/
module

public import proofs.«01_k».proof.Proof.Start

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A whole buffer as rectangles -/

section Cut
variable {T : Type} [Fintype T] (B : Ref sig .tc) (K : T → Finset B.ty.shape.Idx)

omit [FloatOps F] in
/-- A buffer cut along a partition of its indices. -/
theorem cut_split (hd : ∀ t t', t ≠ t' → Disjoint (K t) (K t')) (hc : ∀ i, ∃ t, i ∈ K t) (c : Dev nD) (f : Buf (Elt F) ((c : Thread nD τ).loc B)) :
    (((c : Thread nD τ).loc B) ↦{fullShare} f : sProp 𝕄) = bigSep Finset.univ fun t => ((c : Thread nD τ).loc B) ↦[K t]{fullShare} f := by
  classical
  rw [← pointsTo_biUnion (ℓ := (c : Thread nD τ).loc B) Finset.univ K fun t _ t' _ h => hd t t' h,
    show Finset.univ.biUnion K = (Finset.univ : Finset (Idx ((c : Thread nD τ).loc B))) from
      Finset.ext fun i => ⟨fun _ => Finset.mem_univ _, fun _ => let ⟨t, ht⟩ := hc i; Finset.mem_biUnion.mpr ⟨t, Finset.mem_univ _, ht⟩⟩]

omit [FloatOps F] in
/-- And its pieces joined, whatever they hold. -/
theorem cut_join [Nonempty T] (hd : ∀ t t', t ≠ t' → Disjoint (K t) (K t')) (hc : ∀ i, ∃ t, i ∈ K t) (c : Dev nD) (fs : T → Buf (Elt F) ((c : Thread nD τ).loc B)) :
    (bigSep Finset.univ fun t => ((c : Thread nD τ).loc B) ↦[K t]{fullShare} fs t : sProp 𝕄)
      ⊢ iprop(∃ f : Buf (Elt F) ((c : Thread nD τ).loc B), ((c : Thread nD τ).loc B) ↦{fullShare} f) := by
  classical
  have hu : Finset.univ.biUnion K = (Finset.univ : Finset (Idx ((c : Thread nD τ).loc B))) :=
    Finset.ext fun i => ⟨fun _ => Finset.mem_univ _, fun _ => let ⟨t, ht⟩ := hc i; Finset.mem_biUnion.mpr ⟨t, Finset.mem_univ _, ht⟩⟩
  have h := pointsTo_biUnion_join (Ix := Unit) (Name := ℕ) (U := UU) (Lvl := ℕ) (ℓ := (c : Thread nD τ).loc B) (q := fullShare) Finset.univ K fs (fs (Classical.arbitrary T)) fun t _ t' _ h => hd t t' h
  rw [hu] at h
  refine h.trans ?_
  iintro ⟨%g, -, H⟩
  iexists g; iexact H
end Cut

theorem rectQ_mem {j : Fin 4} {i : S4x768x512.Idx} : i ∈ (rectQ j).set ↔ i 0 = j := by
  rw [show rectQ j = _ from rfl, Rect.mem_set_unit]
  constructor
  · intro h; have := h 0; exact Fin.ext (by have h1 : j.val ≤ (i 0).val ∧ (i 0).val < j.val + 1 := this; omega)
  · rintro rfl a
    fin_cases a
    · exact ⟨le_refl _, Nat.lt_succ_self _⟩
    · exact ⟨Nat.zero_le _, by simpa using (i 1).isLt⟩
    · exact ⟨Nat.zero_le _, by simpa using (i 2).isLt⟩
theorem rectO_mem {j : Fin 4} {i : S4x512x768.Idx} : i ∈ (rectO j).set ↔ i 0 = j := by
  rw [show rectO j = _ from rfl, Rect.mem_set_unit]
  constructor
  · intro h; have := h 0; exact Fin.ext (by have h1 : j.val ≤ (i 0).val ∧ (i 0).val < j.val + 1 := this; omega)
  · rintro rfl a
    fin_cases a
    · exact ⟨le_refl _, Nat.lt_succ_self _⟩
    · exact ⟨Nat.zero_le _, by simpa using (i 1).isLt⟩
    · exact ⟨Nat.zero_le _, by simpa using (i 2).isLt⟩
theorem rectP_mem {p : Fin 4 × Fin 8} {i : S4x8x2x512x64.Idx} : i ∈ (rectP p.1 p.2).set ↔ (i 0, i 1) = p := by
  rw [show rectP p.1 p.2 = _ from rfl, Rect.mem_set_unit]
  constructor
  · intro h
    have h0 : p.1.val ≤ (i 0).val ∧ (i 0).val < p.1.val + 1 := h 0
    have h1 : p.2.val ≤ (i 1).val ∧ (i 1).val < p.2.val + 1 := h 1
    exact Prod.ext (Fin.ext (by show (i 0).val = _; omega)) (Fin.ext (by show (i 1).val = _; omega))
  · rintro rfl a
    fin_cases a
    · exact ⟨le_refl _, Nat.lt_succ_self _⟩
    · exact ⟨le_refl _, Nat.lt_succ_self _⟩
    · exact ⟨Nat.zero_le _, by simpa using (i 2).isLt⟩
    · exact ⟨Nat.zero_le _, by simpa using (i 3).isLt⟩
    · exact ⟨Nat.zero_le _, by simpa using (i 4).isLt⟩

theorem slotQ_set (j : Fin 4) : (slot false j).view.set = (rectQ j).set :=
  (Memref.set_view_squeeze (wqM.slice (rectQ j) (fun _ => rfl)) squeezes_S1x768x512_S768x512).trans (View.set_slice_whole _ _)
theorem slotO_set (j : Fin 4) : (slot true j).view.set = (rectO j).set :=
  (Memref.set_view_squeeze (woM.slice (rectO j) (fun _ => rfl)) squeezes_S1x512x768_S512x768).trans (View.set_slice_whole _ _)
theorem pieceK_set (p : Fin 4 × Fin 8) : (piece false p.1 p.2).view.set = (rectP p.1 p.2).set :=
  (Memref.set_view_squeeze ((ch false).slice (rectP p.1 p.2) (fun _ => rfl)) squeezes_S1x1x2x512x64_S2x512x64).trans (View.set_slice_whole _ _)
theorem pieceV_set (p : Fin 4 × Fin 8) : (piece true p.1 p.2).view.set = (rectP p.1 p.2).set :=
  (Memref.set_view_squeeze ((ch true).slice (rectP p.1 p.2) (fun _ => rfl)) squeezes_S1x1x2x512x64_S2x512x64).trans (View.set_slice_whole _ _)

theorem slotQ_mem {j : Fin 4} {i : S4x768x512.Idx} : i ∈ (slot false j).view.set ↔ i 0 = j := by rw [slotQ_set]; exact rectQ_mem
theorem slotO_mem {j : Fin 4} {i : S4x512x768.Idx} : i ∈ (slot true j).view.set ↔ i 0 = j := by rw [slotO_set]; exact rectO_mem
theorem pieceK_mem {p : Fin 4 × Fin 8} {i : S4x8x2x512x64.Idx} : i ∈ (piece false p.1 p.2).view.set ↔ (i 0, i 1) = p := by rw [pieceK_set]; exact rectP_mem
theorem pieceV_mem {p : Fin 4 × Fin 8} {i : S4x8x2x512x64.Idx} : i ∈ (piece true p.1 p.2).view.set ↔ (i 0, i 1) = p := by rw [pieceV_set]; exact rectP_mem

/-- Sets told apart by what their members are sent to. -/
theorem disjoint_of_mem {I T : Type} {K : T → Finset I} {k : I → T} (h : ∀ {t i}, i ∈ K t ↔ k i = t) (t t' : T) (ht : t ≠ t') :
    Disjoint (K t) (K t') :=
  Finset.disjoint_left.mpr fun i hi hi' => ht ((h.mp hi).symm.trans (h.mp hi'))

/-- The buffer of the query weights or of the output weights, and of the keys' or values' planes. -/
abbrev comB : Bool → Ref sig .tc | false => cc0_scratch0 | true => cc0_scratch1
abbrev plB : Bool → Ref sig .tc | false => cc0_scratch2 | true => cc0_scratch3

/-- A communication buffer cut into its slots. -/
theorem slots_cut (b : Bool) (c : Dev nD) :
    (iprop(∃ f : Buf (Elt F) ((c : Thread nD τ).loc (comB b)), ((c : Thread nD τ).loc (comB b)) ↦{fullShare} f) : sProp 𝕄)
      ⊢ bigSep Finset.univ fun j : Fin 4 => anyPts b j c := by
  iintro ⟨%f, H⟩
  cases b
  · ihave H := (Entails.of_eq (cut_split (F := F) cc0_scratch0 (fun j => (slot false j).view.set)
      (disjoint_of_mem fun {t i} => slotQ_mem) (fun i => ⟨_, slotQ_mem.mpr rfl⟩) c f)) $$ H
    iapply (show _ ⊢ _ from bigSep_mono fun j _ => show _ ⊢ anyPts false j c from by
      unfold anyPts; iintro H; iexists f; iexact H)
    iexact H
  · ihave H := (Entails.of_eq (cut_split (F := F) cc0_scratch1 (fun j => (slot true j).view.set)
      (disjoint_of_mem fun {t i} => slotO_mem) (fun i => ⟨_, slotO_mem.mpr rfl⟩) c f)) $$ H
    iapply (show _ ⊢ _ from bigSep_mono fun j _ => show _ ⊢ anyPts true j c from by
      unfold anyPts; iintro H; iexists f; iexact H)
    iexact H

/-- Its slots, at their final contents, put together. -/
theorem slots_glue (b : Bool) (c : Dev nD) :
    (bigSep Finset.univ fun j : Fin 4 => pts m b j fullShare c)
      ⊢ iprop(∃ f : Buf (Elt F) ((c : Thread nD τ).loc (comB b)), ((c : Thread nD τ).loc (comB b)) ↦{fullShare} f) := by
  cases b
  · exact cut_join (F := F) cc0_scratch0 (fun j => (slot false j).view.set)
      (disjoint_of_mem fun {t i} => slotQ_mem) (fun i => ⟨_, slotQ_mem.mpr rfl⟩) c _
  · exact cut_join (F := F) cc0_scratch1 (fun j => (slot true j).view.set)
      (disjoint_of_mem fun {t i} => slotO_mem) (fun i => ⟨_, slotO_mem.mpr rfl⟩) c _

/-- A buffer of planes cut into the pairs the copies write. -/
theorem planes_cut (b : Bool) (c : Dev nD) :
    (iprop(∃ f : Buf (Elt F) ((c : Thread nD τ).loc (plB b)), ((c : Thread nD τ).loc (plB b)) ↦{fullShare} f) : sProp 𝕄)
      ⊢ bigSep Finset.univ fun p : Fin 4 × Fin 8 => iprop(∃ f, ldst (F := F) b c p.1 p.2 f) := by
  iintro ⟨%f, H⟩
  cases b
  · ihave H := (Entails.of_eq (cut_split (F := F) cc0_scratch2 (fun p : Fin 4 × Fin 8 => (piece false p.1 p.2).view.set)
      (disjoint_of_mem fun {t i} => pieceK_mem) (fun i => ⟨_, pieceK_mem.mpr rfl⟩) c f)) $$ H
    iapply (show _ ⊢ _ from bigSep_mono fun (p : Fin 4 × Fin 8) _ => show _ ⊢ iprop(∃ f, ldst (F := F) false c p.1 p.2 f) from by
      unfold ldst; iintro H; iexists f; iexact H)
    iexact H
  · ihave H := (Entails.of_eq (cut_split (F := F) cc0_scratch3 (fun p : Fin 4 × Fin 8 => (piece true p.1 p.2).view.set)
      (disjoint_of_mem fun {t i} => pieceV_mem) (fun i => ⟨_, pieceV_mem.mpr rfl⟩) c f)) $$ H
    iapply (show _ ⊢ _ from bigSep_mono fun (p : Fin 4 × Fin 8) _ => show _ ⊢ iprop(∃ f, ldst (F := F) true c p.1 p.2 f) from by
      unfold ldst; iintro H; iexists f; iexact H)
    iexact H

/-- The plane pairs, landed, put together. -/
theorem planes_glue (b : Bool) (c : Dev nD) :
    (bigSep Finset.univ fun p : Fin 4 × Fin 8 => ldst (F := F) b c p.1 p.2 (chC m b c))
      ⊢ iprop(∃ f : Buf (Elt F) ((c : Thread nD τ).loc (plB b)), ((c : Thread nD τ).loc (plB b)) ↦{fullShare} f) := by
  cases b
  · exact cut_join (F := F) cc0_scratch2 (fun p : Fin 4 × Fin 8 => (piece false p.1 p.2).view.set)
      (disjoint_of_mem fun {t i} => pieceK_mem) (fun i => ⟨_, pieceK_mem.mpr rfl⟩) c _
  · exact cut_join (F := F) cc0_scratch3 (fun p : Fin 4 × Fin 8 => (piece true p.1 p.2).view.set)
      (disjoint_of_mem fun {t i} => pieceV_mem) (fun i => ⟨_, pieceV_mem.mpr rfl⟩) c _

/-! ## The keys and the values dealt to the copies that read them -/

abbrev srcB : Bool → Ref sig .tc | false => main_arg2 | true => main_arg3
/-- What is kept of the whole keys or values. -/
def kept (b : Bool) (c : Dev nD) : sProp 𝕄 :=
  ((c : Thread nD τ).loc (srcB b)) ↦{Transfers.shareDrop fullShare 32} m ((c : Thread nD τ).loc (srcB b))

/-- The pairs of planes, numbered. -/
def pixE : Fin 4 × Fin 8 ≃ Fin 32 := (Equiv.ofBijective (fun p => pix p.1 p.2) (by
  rw [Fintype.bijective_iff_injective_and_card]
  exact ⟨fun p q h => pix_inj (congrArg Fin.val h), rfl⟩))

theorem src_deal (b : Bool) (c : Dev nD) :
    (((c : Thread nD τ).loc (srcB b)) ↦{fullShare} m ((c : Thread nD τ).loc (srcB b)) : sProp 𝕄)
      ⊢ iprop(kept m b c ∗ bigSep Finset.univ fun p : Fin 4 × Fin 8 => lsrc m b c p.1 p.2) := by
  refine (Transfers.pointsTo_toks_split fullShare 32).trans ?_
  unfold kept
  refine sep_mono_right ?_
  rw [bigSep_univ_equiv pixE]
  refine bigSep_mono fun p _ => ?_
  cases b
  · exact (pointsTo_split_subset (Finset.subset_univ (psrc false c p.1 p.2).view.set)).1.trans sep_elim_left
  · exact (pointsTo_split_subset (Finset.subset_univ (psrc true c p.1 p.2).view.set)).1.trans sep_elim_left

end Cert.Attn
-- ==== Proof.Ghost.lean ====
/-
The launch's ghost resources: the ring's cells and payment tokens as minted, dealt to the devices that pay them, and the credit
for what the devices will pay one another.
-/
module

public import proofs.«01_k».proof.Proof.Start

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's own semaphores: the hops' and the plane copies'. -/
abbrev Os : Type := (Bool × Bool × Fin 3) ⊕ (Bool × Fin 4 × Fin 8)
abbrev osem : Os → SemLoc sig
  | .inl x => sm (some x)
  | .inr p => .dma (psem p.1 p.2.1 p.2.2)
theorem ownSemFacts : Pipeline.OwnSemFacts cfg0.spec osem := by decide

theorem kcell_injective : Function.Injective (kcell : Dev nD × Ck → GSem nD τ sig) := by
  rintro ⟨c, k⟩ ⟨c', k'⟩ h
  have h1 : c = c' := congrArg (fun g : GSem nD τ sig => g.1.1) h
  have h2 : k = k' := sm_inj (congrArg Prod.snd h)
  rw [h1, h2]
def ringCells : Finset (GSem nD τ sig) := Finset.univ.map ⟨kcell, kcell_injective⟩

/-- The payments into a device's cells: two at its barrier, one at every other cell. -/
abbrev Tk : Type := Bool ⊕ (Bool × Bool × Fin 3)
abbrev tkCell : Tk → Ck | .inl _ => none | .inr x => some x
abbrev tkDuty : Tk → Bool | .inl d => d | .inr _ => false
/-- The device a payer `c` pays. -/
abbrev payee (c : Dev nD) : Tk → Dev nD
  | .inl false => nxt c | .inl true => prv c | .inr (false, _) => c | .inr (true, _) => nxt c
abbrev tokOf (ct : Dev nD × Tk) : GSem nD τ sig × ℕ × Bool := (kcell (ct.1, tkCell ct.2), 0, tkDuty ct.2)
theorem tokOf_injective : Function.Injective tokOf := by
  rintro ⟨c, t⟩ ⟨c', t'⟩ h
  have h1 : (c, tkCell t) = (c', tkCell t') := kcell_injective (congrArg Prod.fst h)
  have h2 : tkDuty t = tkDuty t' := congrArg (fun x : GSem nD τ sig × ℕ × Bool => x.2.2) h
  have h3 : c = c' := congrArg Prod.fst h1
  have h4 : tkCell t = tkCell t' := congrArg Prod.snd h1
  have key : ∀ t t' : Tk, tkCell t = tkCell t' → tkDuty t = tkDuty t' → t = t' := by decide
  rw [h3, key t t' h4 h2]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, (1 : Counters)))

omit [FloatOps F] in
theorem ownU_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of the payments into device `c`'s cells; and of those it makes. -/
def toks (c : Dev nD) : sProp 𝕄 := bigSep Finset.univ fun t : Tk => dutyTok ER (kcell (c, tkCell t)) 0 (tkDuty t)
def payToks (c : Dev nD) : sProp 𝕄 := bigSep Finset.univ fun t : Tk => dutyTok ER (kcell (payee c t, tkCell t)) 0 (tkDuty t)
/-- A device's positions in its cells. -/
def poss (c : Dev nD) : sProp 𝕄 := bigSep Finset.univ fun k : Ck => atPos ER (kcell (c, k)) 0 ∅ 0
/-- The plane copies' semaphores at zero. -/
def psems (c : Dev nD) : sProp 𝕄 := bigSep Finset.univ fun p : Bool × Fin 4 × Fin 8 => semVal ((c : Thread nD τ), .dma (psem p.1 p.2.1 p.2.2)) 0
/-- The ring cells' counters at zero. -/
def ksems (c : Dev nD) : sProp 𝕄 := bigSep Finset.univ fun k : Ck => semVal (kcell (c, k)) 0

/-- What the launch deals device `c`, -/
def G (c : Dev nD) : sProp 𝕄 :=
  iprop((bigSep Finset.univ fun k : Ck => roundState ER (Rd m) (kcell (c, k)) 0)
    ∗ (poss c ∗ bigSep Finset.univ fun k : Ck => reached ER (kcell (c, k)) 0) ∗ toks c)
/-- and what is made of it. -/
def G' (c : Dev nD) : sProp 𝕄 := iprop(recs m ∗ poss c ∗ payToks c ∗ psems c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat Hr]
  · isplitl [Hat] <;> iassumption
  iexact Htok

omit [FloatOps F] in
/-- A family over the ring's cells: the barrier's member and the hops'. -/
theorem bigSep_ck (Φ : Ck → sProp 𝕄) : bigSep Finset.univ Φ = iprop(Φ none ∗ bigSep Finset.univ fun x => Φ (some x)) := by
  rw [bigSep_univ_equiv ((Equiv.sumComm PUnit.{1} (Bool × Bool × Fin 3)).trans (Equiv.optionEquivSumPUnit (Bool × Bool × Fin 3)).symm), bigSep_univ_sum,
    bigSep_univ_of_subsingleton PUnit.unit]
  rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    (iprop(unscopedSems0 c ∗ Pipeline.ownSems0 (Ix := Unit) (Name := ℕ) (U := UU) (Lvl := ℕ) (Val := Elt F) (τ := τ) osem c) : sProp 𝕄)
      = iprop(semVal (barCell c) 0 ∗ (bigSep Finset.univ fun x : Bool × Bool × Fin 3 => semVal (kcell (c, some x)) 0) ∗ psems c) := by
  unfold Pipeline.ownSems0 psems
  rw [bigSep_univ_sum, unscopedSems0_eq]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Ck => reached ER (kcell (c, k)) 0) ∗ toks c ∗ poss c ∗ psems c) := by
  unfold G
  iintro ⟨Hos, Hus, Hst, ⟨Hat, Hr⟩, Htok⟩
  ihave Hv := (Entails.of_eq (sems0_eq (F := F) c)) $$ [Hos Hus]
  · isplitl [Hus] <;> iassumption
  icases Hv with ⟨Hb, Hx, Hp⟩
  ihave Hv := (Entails.of_eq (bigSep_ck (F := F) fun k => semVal (kcell (c, k)) 0).symm) $$ [Hb Hx]
  · isplitl [Hb] <;> iassumption
  imod (show iprop((bigSep Finset.univ fun k : Ck => semVal (kcell (c, k)) 0) ∗ bigSep Finset.univ fun k : Ck => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- Every payment's token with the device that makes it. -/
def payE : Dev nD × Tk ≃ Dev nD × Tk where
  toFun x := (payee x.1 x.2, x.2)
  invFun x := (match x.2 with | .inl false => prv x.1 | .inl true => nxt x.1 | .inr (false, _) => x.1 | .inr (true, _) => prv x.1, x.2)
  left_inv := by
    have key : ∀ x : Dev nD × Tk, ((match x.2 with | .inl false => prv (payee x.1 x.2) | .inl true => nxt (payee x.1 x.2) | .inr (false, _) => payee x.1 x.2 | .inr (true, _) => prv (payee x.1 x.2), x.2) : Dev nD × Tk) = x := by decide
    exact key
  right_inv := by
    have key : ∀ x : Dev nD × Tk, ((payee (match x.2 with | .inl false => prv x.1 | .inl true => nxt x.1 | .inr (false, _) => x.1 | .inr (true, _) => prv x.1) x.2, x.2) : Dev nD × Tk) = x := by decide
    exact key

omit [FloatOps F] in
theorem toks_around : (bigSep Finset.univ fun c : Dev nD => (toks c : sProp 𝕄)) = bigSep Finset.univ fun c : Dev nD => payToks c := by
  unfold toks payToks
  rw [← bigSep_univ_prod (fun ct : Dev nD × Tk => (dutyTok ER (kcell (ct.1, tkCell ct.2)) 0 (tkDuty ct.2) : sProp 𝕄)),
    bigSep_univ_equiv payE, bigSep_univ_prod]
  rfl

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Ck => reached ER (kcell (c, k)) 0) ∗ toks c ∗ poss c ∗ psems c) : sProp 𝕄)
      ⊢ bigSep Finset.univ (G' m) := by
  rw [bigSep_sep', bigSep_sep', bigSep_sep', bigSep_sep', ← bigSep_univ_prod (fun ck : Dev nD × Ck => iprop(∃ κ : ℕ, cellInv ER (Rd m) κ (kcell ck))),
    ← bigSep_univ_prod (fun ck : Dev nD × Ck => (reached ER (kcell ck) 0 : sProp 𝕄)), toks_around]
  iintro ⟨HI, Hr, Htk, Hat, Hp⟩
  ihave HK := (BI.bigSep_exists_pi Finset.univ (fun (ck : Dev nD × Ck) (κ : ℕ) => (cellInv ER (Rd m) κ (kcell ck) : sProp 𝕄))) $$ HI
  icases HK with ⟨%K, HI⟩
  iapply (with_persistent (R := recs m) (Φ := fun c => iprop(poss c ∗ payToks c ∗ psems c)) fun c _ => show iprop(recs m ∗ _) ⊢ G' m c from by unfold G'; exact .rfl)
  isplitl [HI Hr]
  · unfold recs
    iexists K
    rw [bigSep_sep']
    isplitl [HI] <;> iassumption
  · rw [bigSep_sep', bigSep_sep']
    isplitl [Hat]; · iexact Hat
    isplitl [Htk] <;> iassumption

/-- Every device's semaphores and ghost resources at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- The units all devices together bring to a cell. -/
def crOf : Ck → ℕ | none => 2 | some (false, _, _) => 0 | some (true, b, _) => N b
def creds (c : Dev nD) : sProp 𝕄 := bigSep Finset.univ fun k : Ck => cred (tallyAt (kcell (c, k)) () (crOf k))

/-- What a device owes a cell is the sum of its payments to it. -/
theorem owe_cell (d c : Dev nD) (k : Ck) (n : ℕ) : owe d n (kcell (c, k)) () = ∑ i ∈ Finset.range n, if tgt d i = (k, c) then unitsOf k else 0 := by
  induction n with
  | zero => rfl
  | succ n ih =>
    rw [Finset.sum_range_succ, ← ih]
    show (owe d n + tallyAt (tgtCell d n) () (unitsOf (tgt d n).1)) (kcell (c, k)) () = _
    rw [Pi.add_apply, Finsupp.add_apply, tallyAt_apply]
    congr 1
    by_cases h : tgt d n = (k, c)
    · rw [if_pos h, if_pos ⟨by rw [show tgtCell d n = kcell ((tgt d n).2, (tgt d n).1) from rfl, h], rfl⟩, h]
    · rw [if_neg h, if_neg fun e => h ?_]
      have e1 : (c, k) = ((tgt d n).2, (tgt d n).1) := kcell_injective e.1
      exact Prod.ext (congrArg Prod.snd e1).symm (congrArg Prod.fst e1).symm

theorem count_cell (c : Dev nD) (k : Ck) : (∑ d : Dev nD, owe d 8 (kcell (c, k)) ()) = crOf k := by
  have cnt : ∀ (c : Dev nD) (k : Ck), (∑ d : Dev nD, ∑ i ∈ Finset.range 8, if tgt d i = (k, c) then 1 else 0)
      = match k with | none => 2 | some (false, _, _) => 0 | some (true, _, _) => 1 := by decide
  have e : (∑ d : Dev nD, owe d 8 (kcell (c, k)) ()) = (∑ d : Dev nD, ∑ i ∈ Finset.range 8, if tgt d i = (k, c) then 1 else 0) * unitsOf k := by
    rw [Finset.sum_mul]
    refine Finset.sum_congr rfl fun d _ => ?_
    rw [owe_cell, Finset.sum_mul]
    exact Finset.sum_congr rfl fun i _ => by split <;> simp
  rw [e, cnt]
  rcases k with _ | ⟨_ | _, b, h⟩
  · rfl
  · exact Nat.zero_mul _
  · exact Nat.one_mul _

omit [FloatOps F] in
theorem launch_creds (c : Dev nD) : (Pipeline.launchCred (fun d => owe d 8) c : sProp 𝕄) ⊢ creds c := by
  unfold Pipeline.launchCred creds
  refine (bigSep_subset (Finset.subset_univ (Finset.univ.map ⟨sm, sm_inj⟩))).trans ?_
  rw [bigSep_map]
  have e (k : Ck) : tallyOn (kcell (c, k)) (launchCredit (Pipeline.owing fun d : Dev nD => owe d 8) 0 (kcell (c, k))) = tallyAt (kcell (c, k)) () (crOf k) := by
    unfold tallyAt
    refine congrArg _ (Finsupp.ext fun u => ?_)
    cases u
    rw [Pipeline.launchCredit_owing, Finsupp.single_eq_same]
    exact count_cell c k
  exact bigSep_mono fun k _ => show cred (tallyOn (kcell (c, k)) (launchCredit (Pipeline.owing fun d : Dev nD => owe d 8) 0 (kcell (c, k)))) ⊢ _ from by rw [e k]

/-- The copies that stage the blocks wait on cells below everything owed. -/
theorem mayWait_stage (c : Dev nD) (s : DmaSem sig) (hs : ∀ k, sm k ≠ .dma s) (O : CellTallies nD τ sig Unit) (hO : O = owe c 8 ∨ O = 0) :
    (levAts L lv : sProp 𝕄) ⊢ MayWait (c : Thread nD τ) (.dma s) () O := by
  rcases hO with rfl | rfl
  · exact mayWait_local c _ 8 hs
  · exact mayWait_local c _ 0 hs

end Cert.Attn
-- ==== Proof.Spec.lean ====
/-
What the kernel leaves in the output's staging buffer, said once for every ring step, batch row and head.
-/
module

public import proofs.«01_k».proof.Proof.Contents

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Which key blocks a query block may look at, as ones and zeros. -/
def mask : FVec F S512x512 .bf16 :=
  k0_pay8 (iota .tc S512x512 32 [0] iota_S512x512_d0_w32) 64#32 k0_pay6 k0_pay7 (Scalar.extui (Scalar.cmpi .sgt 64#32 0#32)) (Scalar.cmpi .slt 64#32 0#32)

/-- One batch row of the activations. -/
def xrow : Fin 2 → FVec F S2x512x768 .bf16 → FVec F S512x768 .bf16
  | 0, x => shapeCast S512x768 (extractStridedSlice S1x512x768 ![0, 0, 0] x slices_S2x512x768_o0_0_0_S1x512x768) shapeCasts_S1x512x768_S512x768
  | 1, x => shapeCast S512x768 (extractStridedSlice S1x512x768 ![1, 0, 0] x slices_S2x512x768_o1_0_0_S1x512x768) shapeCasts_S1x512x768_S512x768

/-- A batch row's queries for eight heads, scaled. -/
def queries (x : FVec F S512x768 .bf16) (wq : Vec F S1x768x512 .bf16) : FVec F S512x512 .bf16 :=
  truncf .bf16 (mulf (matmul dot_S512x768_S768x512_S512x512_1_0_0_1_n_n none x (shapeCast S768x512 wq shapeCasts_S1x768x512_S768x512)
    (constant S512x512 .f32 0x00000000#32)) (broadcast S512x512 (Scalar.ofBits .f32 0x3E000000#32))) bitsLt_bf16_f32

/-- The weights of one head: the exponentials of the scores, masked. -/
def weights (q : FVec F S512x64 .bf16) (kp : Vec F S1x1x1x512x64 .f32) : FVec F S512x512 .bf16 :=
  mulf (truncf .bf16 (exp (matmul dot_S512x64_S512x64_S512x512_1_1_0_0_n_n none q
    (truncf .bf16 (shapeCast S512x64 kp shapeCasts_S1x1x1x512x64_S512x64) bitsLt_bf16_f32) (constant S512x512 .f32 0x00000000#32))) bitsLt_bf16_f32) mask

/-- One head: the weighted sum of the values over the sum of the weights. -/
def head (q : FVec F S512x64 .bf16) (kp vp : Vec F S1x1x1x512x64 .f32) : FVec F S512x64 .f32 :=
  divf (matmul dot_S512x512_S512x64_S512x64_1_0_0_1_n_n none (weights q kp)
      (truncf .bf16 (shapeCast S512x64 vp shapeCasts_S1x1x1x512x64_S512x64) bitsLt_bf16_f32) (constant S512x64 .f32 0x00000000#32))
    (broadcastTo S512x64 (shapeCast S512x1 (multiReduction .add [1] S512 (extf .f32 (weights q kp) bitsLt_bf16_f32) 0x00000000#32
      reduces_S512x512_S512 (.inl rfl) rfl) shapeCasts_S512_S512x1) broadcasts_S512x1_S512x64)

/-- The eight heads of a ring step side by side. -/
def heads (q : FVec F S512x512 .bf16) (K V : Fin 8 → Vec F S1x1x1x512x64 .f32) : FVec F S512x512 .bf16 :=
  truncf .bf16 (concatenate S512x512 1
    [⟨S512x64, head (extractStridedSlice S512x64 ![0, 0] q slices_S512x512_o0_0_S512x64) (K 0) (V 0)⟩,
     ⟨S512x64, head (extractStridedSlice S512x64 ![0, 64] q slices_S512x512_o0_64_S512x64) (K 1) (V 1)⟩,
     ⟨S512x64, head (extractStridedSlice S512x64 ![0, 128] q slices_S512x512_o0_128_S512x64) (K 2) (V 2)⟩,
     ⟨S512x64, head (extractStridedSlice S512x64 ![0, 192] q slices_S512x512_o0_192_S512x64) (K 3) (V 3)⟩,
     ⟨S512x64, head (extractStridedSlice S512x64 ![0, 256] q slices_S512x512_o0_256_S512x64) (K 4) (V 4)⟩,
     ⟨S512x64, head (extractStridedSlice S512x64 ![0, 320] q slices_S512x512_o0_320_S512x64) (K 5) (V 5)⟩,
     ⟨S512x64, head (extractStridedSlice S512x64 ![0, 384] q slices_S512x512_o0_384_S512x64) (K 6) (V 6)⟩,
     ⟨S512x64, head (extractStridedSlice S512x64 ![0, 448] q slices_S512x512_o0_448_S512x64) (K 7) (V 7)⟩]
    concatenates_S512x64_S512x64_S512x64_S512x64_S512x64_S512x64_S512x64_S512x64_S512x512_d1) bitsLt_bf16_f32

/-- What ring step `h` contributes to batch row `r`: its eight heads times its quarter of the output weights. -/
def contrib (c : Dev nD) (h : Fin 4) (r : Fin 2) : FVec F S512x768 .f32 :=
  matmul dot_S512x512_S512x768_S512x768_1_0_0_1_n_n none
    (heads (queries (xrow r (k0_pay5 (xIn m c))) (QS m (back c h.val))) (fun hh => plane m false c h hh r) (fun hh => plane m true c h hh r))
    (shapeCast S512x768 (OS m (back c h.val)) shapeCasts_S1x512x768_S512x768) (constant S512x768 .f32 0x00000000#32)

/-- Batch row `r` of the output after ring step `n`. -/
def outRow (c : Dev nD) (r : Fin 2) : ℕ → Vec F S1x512x768 .f32
  | 0 => shapeCast S1x512x768 (contrib m c 0 r) shapeCasts_S512x768_S1x512x768
  | n + 1 => shapeCast S1x512x768 (addf (shapeCast S512x768 (outRow c r n) shapeCasts_S1x512x768_S512x768) (contrib m c (Fin.ofNat 4 (n + 1)) r)) shapeCasts_S512x768_S1x512x768

end Cert.Attn
-- ==== Proof.Ends.lean ====
/-
A device's resources at the two ends of the body: gathered into the state its steps work on, and given back from it.
-/
module

public import proofs.«01_k».proof.Proof.Buffers
public import proofs.«01_k».proof.Proof.Ghost
public import proofs.«01_k».proof.Proof.Spec

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- The four on-chip buffers, holding anything. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- The whole keys and values. -/
def sources (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))
/-- What a device starts with, -/
def start (c : Dev nD) : sProp 𝕄 := iprop(G' m c ∗ levAts L lv ∗ creds c ∗ sources m c)
def Φ₀ (c : Dev nD) : sProp 𝕄 := iprop(start m c ∗ scratch c)
/-- and what it ends with. -/
def Φ₁ (c : Dev nD) : sProp 𝕄 := iprop((kept m false c ∗ kept m true c) ∗ ksems c ∗ psems c ∗ scratch c)

/-! ## Before -/

/-- A family over the hops' cells, by direction and buffer. -/
theorem hops4 (Φ : Bool × Bool × Fin 3 → sProp 𝕄) : bigSep Finset.univ Φ
    = iprop(((bigSep Finset.univ fun h => Φ (false, false, h)) ∗ (bigSep Finset.univ fun h => Φ (false, true, h)))
      ∗ (bigSep Finset.univ fun h => Φ (true, false, h)) ∗ (bigSep Finset.univ fun h => Φ (true, true, h))) := by
  rw [bigSep_univ_prod, bool2, bigSep_univ_prod, bigSep_univ_prod, bool2, bool2]
/-- A family over the payments: those to the barriers, and the hops'. -/
theorem bigSep_tk (Φ : Tk → sProp 𝕄) : bigSep Finset.univ Φ
    = iprop((bigSep Finset.univ fun d => Φ (.inl d)) ∗ (bigSep Finset.univ fun x => Φ (.inr x))) := bigSep_univ_sum Φ
/-- The plane copies' semaphores, the keys' and the values'. -/
theorem psems2 (c : Dev nD) : (psems c : sProp 𝕄) = iprop((bigSep Finset.univ fun p : Fin 4 × Fin 8 => semVal ((c : Thread nD τ), .dma (psem false p.1 p.2)) 0)
    ∗ (bigSep Finset.univ fun p : Fin 4 × Fin 8 => semVal ((c : Thread nD τ), .dma (psem true p.1 p.2)) 0)) := by
  unfold psems; rw [bigSep_univ_prod, bool2]

theorem open_lane (b : Bool) (c : Dev nD) :
    iprop((∃ f : Buf (Elt F) ((c : Thread nD τ).loc (plB b)), ((c : Thread nD τ).loc (plB b)) ↦{fullShare} f)
      ∗ (bigSep Finset.univ fun p : Fin 4 × Fin 8 => lsrc m b c p.1 p.2)
      ∗ (bigSep Finset.univ fun p : Fin 4 × Fin 8 => semVal ((c : Thread nD τ), .dma (psem b p.1 p.2)) 0)) ⊢ lane m b c 0 0 := by
  unfold lane
  rw [bigSep_congr (s := Finset.univ) (fun (p : Fin 4 × Fin 8) _ => show laneEl m b c 0 0 p
    = iprop(lsrc m b c p.1 p.2 ∗ (∃ f, ldst b c p.1 p.2 f) ∗ semVal ((c : Thread nD τ), .dma (psem b p.1 p.2)) 0) from by
      unfold laneEl; rw [if_neg (Nat.not_lt_zero _), if_neg (Nat.not_lt_zero _)]; rfl), bigSep_sep', bigSep_sep']
  iintro ⟨Hb, Hl, Hs⟩
  ihave Hb := (planes_cut (F := F) b c) $$ Hb
  isplitl [Hl]; · iexact Hl
  isplitl [Hb] <;> iassumption

theorem open_half (b : Bool) (c : Dev nD) :
    iprop((∃ f : Buf (Elt F) ((c : Thread nD τ).loc (comB b)), ((c : Thread nD τ).loc (comB b)) ↦{fullShare} f)
      ∗ ((bigSep Finset.univ fun h : Fin 3 => atPos ER (sendCell b h c) 0 ∅ 0) ∗ (bigSep Finset.univ fun h : Fin 3 => dutyTok ER (sendCell b h c) 0 false)
        ∗ (bigSep Finset.univ fun h : Fin 3 => dutyTok ER (recvCell b h (nxt c)) 0 false))
      ∗ ((bigSep Finset.univ fun h : Fin 3 => cred (tallyAt (recvCell b h c) () (N b))) ∗ (bigSep Finset.univ fun h : Fin 3 => atPos ER (recvCell b h c) 0 ∅ 0)))
    ⊢ half m b c (decide (0 = 0)) false (decide (0 = 3)) 0 0 0 := by
  unfold half slots sends recvs
  rw [bigSep_congr (s := Finset.univ) (fun (j : Fin 4) _ => show slotEl m b c (decide (0 = 0)) false 0 0 0 j = anyPts b j c from by
      unfold slotEl; split <;> rfl),
    bigSep_congr (s := Finset.univ) (fun (h : Fin 3) _ => show sendEl (F := F) b c (decide (0 = 3)) 0 0 h
      = iprop((atPos ER (sendCell b h c) 0 ∅ 0 ∗ dutyTok ER (sendCell b h c) 0 false ∗ dutyTok ER (recvCell b h (nxt c)) 0 false) ∗ emp) from by
      unfold sendEl; rw [if_neg (Nat.not_lt_zero _), if_neg (Nat.not_lt_zero _)]; rfl),
    bigSep_congr (s := Finset.univ) (fun (h : Fin 3) _ => show recvEl (F := F) b c 0 h
      = iprop(cred (tallyAt (recvCell b h c) () (N b)) ∗ atPos ER (recvCell b h c) 0 ∅ 0) from by
      unfold recvEl; rw [if_neg (Nat.not_lt_zero _)]),
    bigSep_sep', bigSep_sep', bigSep_sep', bigSep_sep', show (bigSep Finset.univ fun _ : Fin 3 => (iprop(emp) : sProp 𝕄)) = iprop(emp) from bigSep_emp_const _]
  iintro ⟨Hb, Hs, Hr⟩
  ihave Hb := (slots_cut (F := F) b c) $$ Hb
  isplitl [Hb]; · iexact Hb
  isplitl [Hs]
  · isplitl [Hs]; · iexact Hs
    iempintro
  iexact Hr

/-- The state before the first step. -/
theorem open_body (c : Dev nD) (o0 o1 : Vec F S1x512x768 .f32) :
    Φ₀ m c ⊢ iprop((kept m false c ∗ kept m true c)
      ∗ ((debt c 8 ∗ inputs m c ∗ outSt c o0 o1) -∗ St m c 0 0 0 0 0 false 0 0 0 false 0 0 0 8 o0 o1)) := by
  unfold Φ₀ start G' poss payToks creds sources scratch St
  rw [bigSep_ck, hops4, bigSep_tk, bool2, hops4, bigSep_ck, hops4, psems2]
  iintro ⟨⟨⟨Hrec, ⟨HaB, ⟨HaS, HaS'⟩, ⟨HaV, HaV'⟩⟩, ⟨⟨HtB, HtB'⟩, ⟨HtS, HtS'⟩, ⟨HtV, HtV'⟩⟩, HpK, HpV⟩, Hlev, ⟨HcB, -, ⟨HcV, HcV'⟩⟩, Hk, Hv⟩, H0, H1, H2, H3⟩
  ihave Hk := (src_deal (F := F) m false c) $$ Hk
  icases Hk with ⟨Hkk, Hk⟩
  ihave Hv := (src_deal (F := F) m true c) $$ Hv
  icases Hv with ⟨Hvk, Hv⟩
  isplitl [Hkk Hvk]
  · isplitl [Hkk] <;> iassumption
  iintro ⟨Hd, Hi, Ho⟩
  isplitl [Hrec]; · iexact Hrec
  isplitl [Hlev]; · iexact Hlev
  isplitl [H2 Hk HpK]
  · iapply (open_lane m false c)
    isplitl [H2]; · iexact H2
    isplitl [Hk] <;> iassumption
  isplitl [H3 Hv HpV]
  · iapply (open_lane m true c)
    isplitl [H3]; · iexact H3
    isplitl [Hv] <;> iassumption
  isplitl [HaB HcB HtB HtB']
  · iapply (show iprop(atPos ER (barCell c) 0 ∅ 0 ∗ cred (tallyAt (barCell c) () 2) ∗ dutyTok ER (barCell (nxt c)) 0 false ∗ dutyTok ER (barCell (prv c)) 0 true)
      ⊢ barSt (F := F) c 0 from .rfl)
    isplitl [HaB]; · iexact HaB
    isplitl [HcB]; · iexact HcB
    isplitl [HtB]; · iexact HtB
    iexact HtB'
  isplitl [H0 HaS HtS HtV HcV HaV]
  · iapply (open_half m false c)
    isplitl [H0]; · iexact H0
    isplitl [HaS HtS HtV]
    · isplitl [HaS]; · iexact HaS
      isplitl [HtS]; · iexact HtS
      iexact HtV
    isplitl [HcV]; · iexact HcV
    iexact HaV
  isplitl [H1 HaS' HtS' HtV' HcV' HaV']
  · iapply (open_half m true c)
    isplitl [H1]; · iexact H1
    isplitl [HaS' HtS' HtV']
    · isplitl [HaS']; · iexact HaS'
      isplitl [HtS']; · iexact HtS'
      iexact HtV'
    isplitl [HcV']; · iexact HcV'
    iexact HaV'
  isplitl [Hd]; · iexact Hd
  isplitl [Hi] <;> iassumption

/-! ## After -/

theorem close_lane (b : Bool) (c : Dev nD) : lane m b c 32 32
    ⊢ iprop((∃ f : Buf (Elt F) ((c : Thread nD τ).loc (plB b)), ((c : Thread nD τ).loc (plB b)) ↦{fullShare} f)
      ∗ (bigSep Finset.univ fun p : Fin 4 × Fin 8 => semVal ((c : Thread nD τ), .dma (psem b p.1 p.2)) 0)) := by
  unfold lane
  rw [bigSep_congr (s := Finset.univ) (fun (p : Fin 4 × Fin 8) _ => show laneEl m b c 32 32 p
    = iprop(ldst b c p.1 p.2 (chC m b c) ∗ semVal ((c : Thread nD τ), .dma (psem b p.1 p.2)) 0) from by
      unfold laneEl; rw [if_pos (pix p.1 p.2).isLt]; rfl), bigSep_sep']
  exact sep_mono_left (planes_glue m b c)

theorem close_half (b : Bool) (c : Dev nD) : half m b c (decide (3 = 0)) true (decide (3 = 3)) 3 3 3
    ⊢ iprop((∃ f : Buf (Elt F) ((c : Thread nD τ).loc (comB b)), ((c : Thread nD τ).loc (comB b)) ↦{fullShare} f)
      ∗ (bigSep Finset.univ fun h : Fin 3 => semVal (sendCell b h c) 0) ∗ (bigSep Finset.univ fun h : Fin 3 => semVal (recvCell b h c) 0)) := by
  unfold half slots sends recvs
  rw [bigSep_congr (s := Finset.univ) (fun (j : Fin 4) _ => show slotEl m b c (decide (3 = 0)) true 3 3 3 j = pts m b j fullShare c from by
      have e : share 3 3 j = fullShare := if_neg fun h => absurd h.2 (not_lt.mpr h.1)
      unfold slotEl
      rw [e]
      split
      · rfl
      · rw [if_neg (by decide), if_pos (by have := j.isLt; omega)]),
    bigSep_congr (s := Finset.univ) (fun (h : Fin 3) _ => show sendEl (F := F) b c (decide (3 = 3)) 3 3 h = semVal (sendCell b h c) 0 from by
      unfold sendEl; rw [if_pos h.isLt]),
    bigSep_congr (s := Finset.univ) (fun (h : Fin 3) _ => show recvEl (F := F) b c 3 h = semVal (recvCell b h c) 0 from by
      unfold recvEl; rw [if_pos h.isLt])]
  exact sep_mono_left (slots_glue m b c)

/-- The output: each batch row as the last ring step left it. -/
def outFinal (c : Dev nD) : (cc0_stg3_0 : Ref sig .tc).ty.Contents (Elt F) :=
  fun i : S2x512x768.Idx => outRow m c (i 0) 3 (ix3 (0 : Fin 1) (i 1 : Fin 512) (i 2 : Fin 768))

theorem out_final (c : Dev nD) : outSt c (outRow m c 0 3) (outRow m c 1 3) ⊢ (((c : Thread nD τ).loc cc0_stg3_0) ↦{fullShare} outFinal m c) := by
  unfold outSt
  iintro ⟨%f, %hf, H⟩
  have e : f = outFinal m c := by
    have row : ∀ (r : Fin 2) (a : Fin 512) (b : Fin 768),
        (outM : Memref sig .tc .vmem S2x512x768 .f32).view.readAt (Elt F) (rectOut r).toLoadRect f (ix3 (0 : Fin 1) a b) = (f : S2x512x768.Idx → Elt F .f32) (ix3 r a b) := by
      intro r a b
      refine congrArg (f : S2x512x768.Idx → Elt F .f32) (funext fun x => Fin.ext ?_)
      fin_cases x
      · show r.val + 1 * 0 = r.val; omega
      · show 0 + 1 * a.val = a.val; omega
      · show 0 + 1 * b.val = b.val; omega
    have key : ∀ i : S2x512x768.Idx, (f : S2x512x768.Idx → Elt F .f32) i = outRow m c (i 0) 3 (ix3 (0 : Fin 1) (i 1 : Fin 512) (i 2 : Fin 768)) := by
      intro i
      obtain ⟨r, a, b, rfl⟩ : ∃ (r : Fin 2) (a : Fin 512) (b : Fin 768), i = ix3 r a b := ⟨i 0, i 1, i 2, eq_ix3 i⟩
      rw [← row r a b]
      match r with
      | 0 => exact congrFun hf.1 _
      | 1 => exact congrFun hf.2 _
    exact funext key
  rw [← e]
  iexact H

/-- The state after the last step, given back. -/
theorem close_body (c : Dev nD) : iprop((kept m false c ∗ kept m true c) ∗ St m c 32 32 32 32 3 true 3 3 3 true 3 3 3 0 (outRow m c 0 3) (outRow m c 1 3))
    ⊢ iprop(Φ₁ m c ∗ debt c 0 ∗ inputs m c ∗ (((c : Thread nD τ).loc cc0_stg3_0) ↦{fullShare} outFinal m c)) := by
  unfold Φ₁ ksems scratch St
  rw [bigSep_ck, hops4, psems2]
  iintro ⟨Hkept, -, -, Hlk, Hlv, HB, Hq, Ho, Hd, Hi, Hout⟩
  ihave Hlk := (close_lane m false c) $$ Hlk
  icases Hlk with ⟨H2, HpK⟩
  ihave Hlv := (close_lane m true c) $$ Hlv
  icases Hlv with ⟨H3, HpV⟩
  ihave Hq := (close_half m false c) $$ Hq
  icases Hq with ⟨H0, HsQ, HrQ⟩
  ihave Ho := (close_half m true c) $$ Ho
  icases Ho with ⟨H1, HsO, HrO⟩
  ihave Hout := (out_final m c) $$ Hout
  isplitr [Hd Hi Hout]
  · isplitl [Hkept]; · iexact Hkept
    isplitl [HB HsQ HrQ HsO HrO]
    · isplitl [HB]; · iapply (show barSt (F := F) c 3 ⊢ semVal (barCell c) 0 from .rfl); iexact HB
      isplitl [HsQ HsO]
      · isplitl [HsQ] <;> iassumption
      isplitl [HrQ] <;> iassumption
    isplitl [HpK HpV]
    · isplitl [HpK] <;> iassumption
    isplitl [H0]; · iexact H0
    isplitl [H1]; · iexact H1
    isplitl [H2] <;> iassumption
  isplitl [Hd]; · iexact Hd
  isplitl [Hi] <;> iassumption

end Cert.Attn
-- ==== Proof.Steps.lean ====
/-
The body's steps, each as a passage from one stage of a device's resources to the next.
-/
module

public import proofs.«01_k».proof.Proof.Start

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {sk wk sv wv ph : ℕ} {tq : Bool} {sq wq rq : ℕ} {uo : Bool} {so wo ro ow : ℕ} {o0 o1 : Vec F S1x512x768 .f32}
variable {α : Type}

/-- The ring step and the head of plane pair number `s`. -/
abbrev qh (s : ℕ) (h4 : s / 8 < 4) : Fin 4 := ⟨s / 8, h4⟩
abbrev qhh (s : ℕ) : Fin 8 := ⟨s % 8, Nat.mod_lt _ (by decide)⟩

/-! ## The plane copies -/

/-- The next copy of a plane pair of keys starts. -/
theorem st_startK (h4 : sk / 8 < 4 := by decide) (hw : wk ≤ sk := by decide)
    {h1 : (psrc false c (qh sk h4) (qhh sk)).view.WordExact} {h2 : (piece false (qh sk h4) (qhh sk)).view.WordExact}
    {h3 : (DmaTarget.here (nD := nD) (τ := τ) (p := (.tc : Proc τ)) (piece false (qh sk h4) (qhh sk))).Typed .hbm (.dma (psem false (qh sk h4) (qhh sk)))}
    {Q : α → sProp 𝕄} {k : PUnit → Prog (TpuEff nD τ sig (Elt F) Λ₀ .tc) α}
    (H : St m c (sk + 1) wk sv wv ph tq sq wq rq uo so wo ro ow o0 o1 ⊢ WP c (k ⟨⟩) Q) :
    St m c sk wk sv wv ph tq sq wq rq uo so wo ro ow o0 o1
      ⊢ WP c (.op (.enqueueDma (psrc false c (qh sk h4) (qhh sk)) (.here (piece false (qh sk h4) (qhh sk)))
          (.dma (psem false (qh sk h4) (qhh sk))) h1 h2 h3) k) Q := by
  unfold St at *
  iintro ⟨#Hr, #Hlev, Hk, Hv, Hb, Hq, Ho, Hd, Hi, Hu⟩
  iapply (lane_start_rule m false c sk wk (qh sk h4) (qhh sk) (Nat.div_add_mod sk 8) hw) $$ Hk
  iintro Hk
  iapply H
  isplitr; · iexact Hr
  isplitr; · iexact Hlev
  iframe

/-- The next copy of a plane pair of values starts. -/
theorem st_startV (h4 : sv / 8 < 4 := by decide) (hw : wv ≤ sv := by decide)
    {h1 : (psrc true c (qh sv h4) (qhh sv)).view.WordExact} {h2 : (piece true (qh sv h4) (qhh sv)).view.WordExact}
    {h3 : (DmaTarget.here (nD := nD) (τ := τ) (p := (.tc : Proc τ)) (piece true (qh sv h4) (qhh sv))).Typed .hbm (.dma (psem true (qh sv h4) (qhh sv)))}
    {Q : α → sProp 𝕄} {k : PUnit → Prog (TpuEff nD τ sig (Elt F) Λ₀ .tc) α}
    (H : St m c sk wk (sv + 1) wv ph tq sq wq rq uo so wo ro ow o0 o1 ⊢ WP c (k ⟨⟩) Q) :
    St m c sk wk sv wv ph tq sq wq rq uo so wo ro ow o0 o1
      ⊢ WP c (.op (.enqueueDma (psrc true c (qh sv h4) (qhh sv)) (.here (piece true (qh sv h4) (qhh sv)))
          (.dma (psem true (qh sv h4) (qhh sv))) h1 h2 h3) k) Q := by
  unfold St at *
  iintro ⟨#Hr, #Hlev, Hk, Hv, Hb, Hq, Ho, Hd, Hi, Hu⟩
  iapply (lane_start_rule m true c sv wv (qh sv h4) (qhh sv) (Nat.div_add_mod sv 8) hw) $$ Hv
  iintro Hv
  iapply H
  isplitr; · iexact Hr
  isplitr; · iexact Hlev
  iframe

/-- The next plane pair of keys is awaited. -/
theorem st_waitK (h4 : wk / 8 < 4 := by decide) (hw : wk < sk := by decide)
    {h1 : (psrc false c (qh wk h4) (qhh wk)).view.WordExact} {h2 : (piece false (qh wk h4) (qhh wk)).view.WordExact}
    {Q : α → sProp 𝕄} {k : PUnit → Prog (TpuEff nD τ sig (Elt F) Λ₀ .tc) α}
    (H : St m c sk (wk + 1) sv wv ph tq sq wq rq uo so wo ro ow o0 o1 ⊢ WP c (k ⟨⟩) Q) :
    St m c sk wk sv wv ph tq sq wq rq uo so wo ro ow o0 o1
      ⊢ WP c (.op (.waitDma2 (psem false (qh wk h4) (qhh wk)) (psrc false c (qh wk h4) (qhh wk)) (piece false (qh wk h4) (qhh wk)) h1 h2) k) Q := by
  unfold St at *
  iintro ⟨#Hr, #Hlev, Hk, Hv, Hb, Hq, Ho, Hd, Hi, Hu⟩
  iapply (lane_wait_rule m false c sk wk ow (qh wk h4) (qhh wk) (Nat.div_add_mod wk 8) hw) $$ [Hk Hd]
  · iframe
    iexact Hlev
  iintro ⟨Hk, Hd⟩
  iapply H
  isplitr; · iexact Hr
  isplitr; · iexact Hlev
  iframe

/-- The next plane pair of values is awaited. -/
theorem st_waitV (h4 : wv / 8 < 4 := by decide) (hw : wv < sv := by decide)
    {h1 : (psrc true c (qh wv h4) (qhh wv)).view.WordExact} {h2 : (piece true (qh wv h4) (qhh wv)).view.WordExact}
    {Q : α → sProp 𝕄} {k : PUnit → Prog (TpuEff nD τ sig (Elt F) Λ₀ .tc) α}
    (H : St m c sk wk sv (wv + 1) ph tq sq wq rq uo so wo ro ow o0 o1 ⊢ WP c (k ⟨⟩) Q) :
    St m c sk wk sv wv ph tq sq wq rq uo so wo ro ow o0 o1
      ⊢ WP c (.op (.waitDma2 (psem true (qh wv h4) (qhh wv)) (psrc true c (qh wv h4) (qhh wv)) (piece true (qh wv h4) (qhh wv)) h1 h2) k) Q := by
  unfold St at *
  iintro ⟨#Hr, #Hlev, Hk, Hv, Hb, Hq, Ho, Hd, Hi, Hu⟩
  iapply (lane_wait_rule m true c sv wv ow (qh wv h4) (qhh wv) (Nat.div_add_mod wv 8) hw) $$ [Hv Hd]
  · iframe
    iexact Hlev
  iintro ⟨Hv, Hd⟩
  iapply H
  isplitr; · iexact Hr
  isplitr; · iexact Hlev
  iframe

end Cert.Attn
-- ==== Proof.Reads.lean ====
/-
The body's loads and stores, each as a passage from one stage of a device's resources to the next.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {sk wk sv wv ph : ℕ} {tq : Bool} {sq wq rq : ℕ} {uo : Bool} {so wo ro ow : ℕ} {o0 o1 : Vec F S1x512x768 .f32}
variable {α : Type}

/-- A stage with the two conditions on the barrier's phase decided. -/
theorem St_at (ph : ℕ) (own bar : Bool) (h0 : decide (ph = 0) = own) (h3 : decide (ph = 3) = bar) :
    St m c sk wk sv wv ph tq sq wq rq uo so wo ro ow o0 o1 = iprop(recs m ∗ levAts L lv ∗ lane m false c sk wk ∗ lane m true c sv wv ∗ barSt c ph
      ∗ half m false c own tq bar sq wq rq ∗ half m true c own uo bar so wo ro ∗ debt c ow ∗ inputs m c ∗ outSt c o0 o1) := by
  subst h0 h3; rfl

/-! ## The staged blocks -/

/-- A load from a buffer held in full. -/
theorem load_all {s : Shape} {e : EltTy} (M : Memref sig .tc .vmem s e) (c : Dev nD) (r : LoadRect s) {hl : M.view.LoadsAt r}
    (f : Buf (Elt F) (M.view.loc (c : Thread nD τ))) (v : r.shape.Idx → Elt F e) (hv : M.view.readAt (Elt F) r f = v)
    {Q : α → sProp 𝕄} {k : (r.shape.Idx → Elt F e) → Prog (TpuEff nD τ sig (Elt F) Λ₀ .tc) α} :
    (M.view.loc (c : Thread nD τ) ↦{fullShare} f)
      ⊢ iprop(((M.view.loc (c : Thread nD τ) ↦{fullShare} f) -∗ WP c (k v) Q) -∗ WP c (.op (.load M r hl) k) Q) := by
  subst hv
  exact wp_load 𝒱₀ (c : Thread nD τ) none Set.univ (Finset.subset_univ _)

theorem zero2 : (![0, 0] : Fin 2 → Nat) = fun _ => 0 := by decide
theorem zero3 : (![0, 0, 0] : Fin 3 → Nat) = fun _ => 0 := by decide

/-- The load of the staged activations. -/
theorem st_loadX {inb} {hl} {Q : α → sProp 𝕄} {k : (S2x512x768.Idx → Elt F .f32) → Prog (TpuEff nD τ sig (Elt F) Λ₀ .tc) α}
    (H : St m c sk wk sv wv ph tq sq wq rq uo so wo ro ow o0 o1 ⊢ WP c (k (xIn m c)) Q) :
    St m c sk wk sv wv ph tq sq wq rq uo so wo ro ow o0 o1
      ⊢ WP c (.op (.load (Memref.whole cc0_stg0_0 : Memref sig .tc .vmem S2x512x768 .f32)
          (Rect.unit (s := S2x512x768) ![0, 0, 0] S2x512x768.size inb).toLoadRect hl) k) Q := by
  unfold St inputs at *
  iintro ⟨#Hr, #Hlev, Hk, Hv, Hb, Hq, Ho, Hd, ⟨Hi, Hi1, Hi2⟩, Hu⟩
  iapply (load_all (Memref.whole cc0_stg0_0 : Memref sig .tc .vmem S2x512x768 .f32) c _ (xIn m c) (xIn m c)
    (Memref.readAt_unit_zero (Elt F) cc0_stg0_0 zero3 inb (xIn m c))) $$ Hi
  iintro Hi
  iapply H
  isplitr; · iexact Hr
  isplitr; · iexact Hlev
  iframe

/-- The load of the staged query weights. -/
theorem st_loadWq {inb} {hl} {Q : α → sProp 𝕄} {k : (S768x512.Idx → Elt F .f32) → Prog (TpuEff nD τ sig (Elt F) Λ₀ .tc) α}
    (H : St m c sk wk sv wv ph tq sq wq rq uo so wo ro ow o0 o1 ⊢ WP c (k (wqIn m c)) Q) :
    St m c sk wk sv wv ph tq sq wq rq uo so wo ro ow o0 o1
      ⊢ WP c (.op (.load (Memref.whole cc0_stg1_0 : Memref sig .tc .vmem S768x512 .f32)
          (Rect.unit (s := S768x512) ![0, 0] S768x512.size inb).toLoadRect hl) k) Q := by
  unfold St inputs at *
  iintro ⟨#Hr, #Hlev, Hk, Hv, Hb, Hq, Ho, Hd, ⟨Hi, Hi1, Hi2⟩, Hu⟩
  iapply (load_all (Memref.whole cc0_stg1_0 : Memref sig .tc .vmem S768x512 .f32) c _ (wqIn m c) (wqIn m c)
    (Memref.readAt_unit_zero (Elt F) cc0_stg1_0 zero2 inb (wqIn m c))) $$ Hi1
  iintro Hi1
  iapply H
  isplitr; · iexact Hr
  isplitr; · iexact Hlev
  iframe

/-- The load of the staged output weights. -/
theorem st_loadWo {inb} {hl} {Q : α → sProp 𝕄} {k : (S512x768.Idx → Elt F .f32) → Prog (TpuEff nD τ sig (Elt F) Λ₀ .tc) α}
    (H : St m c sk wk sv wv ph tq sq wq rq uo so wo ro ow o0 o1 ⊢ WP c (k (woIn m c)) Q) :
    St m c sk wk sv wv ph tq sq wq rq uo so wo ro ow o0 o1
      ⊢ WP c (.op (.load (Memref.whole cc0_stg2_0 : Memref sig .tc .vmem S512x768 .f32)
          (Rect.unit (s := S512x768) ![0, 0] S512x768.size inb).toLoadRect hl) k) Q := by
  unfold St inputs at *
  iintro ⟨#Hr, #Hlev, Hk, Hv, Hb, Hq, Ho, Hd, ⟨Hi, Hi1, Hi2⟩, Hu⟩
  iapply (load_all (Memref.whole cc0_stg2_0 : Memref sig .tc .vmem S512x768 .f32) c _ (woIn m c) (woIn m c)
    (Memref.readAt_unit_zero (Elt F) cc0_stg2_0 zero2 inb (woIn m c))) $$ Hi2
  iintro Hi2
  iapply H
  isplitr; · iexact Hr
  isplitr; · iexact Hlev
  iframe

/-! ## Slot 0 -/

/-- A load of slot 0 of the query weights before anything is there; nothing depends on it. -/
theorem st_peekQ (hs : sq = 0 := by rfl) {hl} {Q : α → sProp 𝕄} {k : (S1x768x512.Idx → Elt F .bf16) → Prog (TpuEff nD τ sig (Elt F) Λ₀ .tc) α}
    (H : ∀ v, St m c sk wk sv wv ph false sq wq rq uo so wo ro ow o0 o1 ⊢ WP c (k v) Q) :
    St m c sk wk sv wv ph false sq wq rq uo so wo ro ow o0 o1 ⊢ WP c (.op (.load wqM (rectQ 0).toLoadRect hl) k) Q := by
  unfold St at *
  iintro ⟨#Hr, #Hlev, Hk, Hv, Hb, Hq, Ho, Hd, Hi, Hu⟩
  ihave Hq := (half_first m false c _ _ sq wq rq hs) $$ Hq
  unfold anyPts
  icases Hq with ⟨⟨%f, Hp⟩, Hq⟩
  iapply (wp_load_rect 𝒱₀ (c : Thread nD τ) none Set.univ (slotQ_acc 0)) $$ Hp
  iintro Hp
  iapply H
  isplitr; · iexact Hr
  isplitr; · iexact Hlev
  ihave Hq := Hq $$ [Hp]
  · iexists f; iexact Hp
  iframe

/-- The same of the output weights. -/
theorem st_peekO (hs : so = 0 := by rfl) {hl} {Q : α → sProp 𝕄} {k : (S1x512x768.Idx → Elt F .bf16) → Prog (TpuEff nD τ sig (Elt F) Λ₀ .tc) α}
    (H : ∀ v, St m c sk wk sv wv ph tq sq wq rq false so wo ro ow o0 o1 ⊢ WP c (k v) Q) :
    St m c sk wk sv wv ph tq sq wq rq false so wo ro ow o0 o1 ⊢ WP c (.op (.load woM (rectO 0).toLoadRect hl) k) Q := by
  unfold St at *
  iintro ⟨#Hr, #Hlev, Hk, Hv, Hb, Hq, Ho, Hd, Hi, Hu⟩
  ihave Ho := (half_first m true c _ _ so wo ro hs) $$ Ho
  unfold anyPts
  icases Ho with ⟨⟨%f, Hp⟩, Ho⟩
  iapply (wp_load_rect 𝒱₀ (c : Thread nD τ) none Set.univ (slotO_acc 0)) $$ Hp
  iintro Hp
  iapply H
  isplitr; · iexact Hr
  isplitr; · iexact Hlev
  ihave Ho := Ho $$ [Hp]
  · iexists f; iexact Hp
  iframe

/-- The store of slot 0 of the query weights. -/
theorem st_storeQ {w : S1x768x512.Idx → Elt F .bf16} (hw : w = QS m c) {hx} {hm} {Q : α → sProp 𝕄} {k : PUnit → Prog (TpuEff nD τ sig (Elt F) Λ₀ .tc) α}
    (H : St m c sk wk sv wv ph true 0 wq rq uo so wo ro ow o0 o1 ⊢ WP c (k ⟨⟩) Q) :
    St m c sk wk sv wv ph false 0 wq rq uo so wo ro ow o0 o1 ⊢ WP c (.op (.store wqM (rectQ 0) w Finset.univ hx hm) k) Q := by
  subst hw
  unfold St at *
  iintro ⟨#Hr, #Hlev, Hk, Hv, Hb, Hq, Ho, Hd, Hi, Hu⟩
  ihave Hq := (half_store m false c _ _ wq rq) $$ Hq
  unfold anyPts
  icases Hq with ⟨⟨%f, Hp⟩, Hq⟩
  iapply (wp_store 𝒱₀ (c : Thread nD τ) none Set.univ (m := wqM) (r := rectQ 0) (slotQ_acc 0)) $$ Hp
  iintro Hp
  iapply H
  isplitr; · iexact Hr
  isplitr; · iexact Hlev
  ihave Hq := Hq $$ [Hp]
  · unfold pts
    iapply (Entails.of_eq (pointsTo_congr (stored_Q m c f)))
    iexact Hp
  iframe

/-- The store of slot 0 of the output weights. -/
theorem st_storeO {w : S1x512x768.Idx → Elt F .bf16} (hw : w = OS m c) {hx} {hm} {Q : α → sProp 𝕄} {k : PUnit → Prog (TpuEff nD τ sig (Elt F) Λ₀ .tc) α}
    (H : St m c sk wk sv wv ph tq sq wq rq true 0 wo ro ow o0 o1 ⊢ WP c (k ⟨⟩) Q) :
    St m c sk wk sv wv ph tq sq wq rq false 0 wo ro ow o0 o1 ⊢ WP c (.op (.store woM (rectO 0) w Finset.univ hx hm) k) Q := by
  subst hw
  unfold St at *
  iintro ⟨#Hr, #Hlev, Hk, Hv, Hb, Hq, Ho, Hd, Hi, Hu⟩
  ihave Ho := (half_store m true c _ _ wo ro) $$ Ho
  unfold anyPts
  icases Ho with ⟨⟨%f, Hp⟩, Ho⟩
  iapply (wp_store 𝒱₀ (c : Thread nD τ) none Set.univ (m := woM) (r := rectO 0) (slotO_acc 0)) $$ Hp
  iintro Hp
  iapply H
  isplitr; · iexact Hr
  isplitr; · iexact Hlev
  ihave Ho := Ho $$ [Hp]
  · unfold pts
    iapply (Entails.of_eq (pointsTo_congr (stored_O m c f)))
    iexact Hp
  iframe

/-! ## The slots once filled -/

/-- A load of slot `j` of the query weights: the quarter of the device `j` back. -/
theorem st_loadQ (j : Fin 4) (hj : j.val ≤ rq := by decide) {hl} {Q : α → sProp 𝕄} {k : (S1x768x512.Idx → Elt F .bf16) → Prog (TpuEff nD τ sig (Elt F) Λ₀ .tc) α}
    (H : St m c sk wk sv wv 3 true sq wq rq uo so wo ro ow o0 o1 ⊢ WP c (k (QS m (back c j.val))) Q) :
    St m c sk wk sv wv 3 true sq wq rq uo so wo ro ow o0 o1 ⊢ WP c (.op (.load wqM (rectQ j).toLoadRect hl) k) Q := by
  rw [St_at m 3 false true rfl rfl] at *
  iintro ⟨#Hr, #Hlev, Hk, Hv, Hb, Hq, Ho, Hd, Hi, Hu⟩
  ihave Hq := (half_look m false c sq wq rq j hj) $$ Hq
  icases Hq with ⟨Hp, Hq⟩
  unfold pts
  rw [← readQ m j c] at H
  iapply (wp_load_rect 𝒱₀ (c : Thread nD τ) none Set.univ (slotQ_acc j)) $$ Hp
  iintro Hp
  iapply H
  isplitr; · iexact Hr
  isplitr; · iexact Hlev
  ihave Hq := Hq $$ Hp
  iframe

/-- A load of slot `j` of the output weights. -/
theorem st_loadO (j : Fin 4) (hj : j.val ≤ ro := by decide) {hl} {Q : α → sProp 𝕄} {k : (S1x512x768.Idx → Elt F .bf16) → Prog (TpuEff nD τ sig (Elt F) Λ₀ .tc) α}
    (H : St m c sk wk sv wv 3 tq sq wq rq true so wo ro ow o0 o1 ⊢ WP c (k (OS m (back c j.val))) Q) :
    St m c sk wk sv wv 3 tq sq wq rq true so wo ro ow o0 o1 ⊢ WP c (.op (.load woM (rectO j).toLoadRect hl) k) Q := by
  rw [St_at m 3 false true rfl rfl] at *
  iintro ⟨#Hr, #Hlev, Hk, Hv, Hb, Hq, Ho, Hd, Hi, Hu⟩
  ihave Ho := (half_look m true c so wo ro j hj) $$ Ho
  icases Ho with ⟨Hp, Ho⟩
  unfold pts
  rw [← readO m j c] at H
  iapply (wp_load_rect 𝒱₀ (c : Thread nD τ) none Set.univ (slotO_acc j)) $$ Hp
  iintro Hp
  iapply H
  isplitr; · iexact Hr
  isplitr; · iexact Hlev
  ihave Ho := Ho $$ Hp
  iframe

/-! ## The planes -/

/-- A plane lies within its pair. -/
theorem plane_acc (b : Bool) (h : Fin 4) (hh : Fin 8) (r : Fin 2) : ((ch b).access (rectL h hh r)).set ⊆ (piece b h hh).view.set := by
  have key : (rectL h hh r).set ⊆ (rectP h hh).set := by
    refine Rect.set_subset_of_span _ _ (fun _ => rfl) ?_
    revert h hh r; decide
  have key' : ((ch b).access (rectL h hh r)).set ⊆ ((ch b).view.slice (rectP h hh)).set := by
    show ((ch b).view.slice (rectL h hh r)).set ⊆ _
    rw [View.set_slice, View.set_slice]
    exact Finset.map_subset_map.mpr key
  exact fun i hi => (Finset.ext_iff.mp (Memref.set_view_squeeze ((ch b).slice (rectP h hh) (fun _ => rfl)) squeezes_S1x1x2x512x64_S2x512x64) i).mpr (key' hi)

/-- A load of a plane of keys. -/
theorem st_loadK (h : Fin 4) (hh : Fin 8) (r : Fin 2) (hw : 8 * h.val + hh.val < wk := by decide) {hl}
    {Q : α → sProp 𝕄} {k : (S1x1x1x512x64.Idx → Elt F .f32) → Prog (TpuEff nD τ sig (Elt F) Λ₀ .tc) α}
    (H : St m c sk wk sv wv ph tq sq wq rq uo so wo ro ow o0 o1 ⊢ WP c (k (plane m false c h hh r)) Q) :
    St m c sk wk sv wv ph tq sq wq rq uo so wo ro ow o0 o1 ⊢ WP c (.op (.load (ch false) (rectL h hh r).toLoadRect hl) k) Q := by
  unfold St at *
  iintro ⟨#Hr, #Hlev, Hk, Hv, Hb, Hq, Ho, Hd, Hi, Hu⟩
  ihave Hk := (lane_look m false c sk wk h hh hw) $$ Hk
  unfold lland ldst
  icases Hk with ⟨⟨Hp, Hs⟩, Hk⟩
  rw [← read_plane m false c h hh r] at H
  iapply (wp_load_rect 𝒱₀ (c : Thread nD τ) none Set.univ (plane_acc false h hh r)) $$ Hp
  iintro Hp
  iapply H
  isplitr; · iexact Hr
  isplitr; · iexact Hlev
  ihave Hk := Hk $$ [Hp Hs]
  · isplitl [Hp] <;> iassumption
  iframe

/-- A load of a plane of values. -/
theorem st_loadV (h : Fin 4) (hh : Fin 8) (r : Fin 2) (hw : 8 * h.val + hh.val < wv := by decide) {hl}
    {Q : α → sProp 𝕄} {k : (S1x1x1x512x64.Idx → Elt F .f32) → Prog (TpuEff nD τ sig (Elt F) Λ₀ .tc) α}
    (H : St m c sk wk sv wv ph tq sq wq rq uo so wo ro ow o0 o1 ⊢ WP c (k (plane m true c h hh r)) Q) :
    St m c sk wk sv wv ph tq sq wq rq uo so wo ro ow o0 o1 ⊢ WP c (.op (.load (ch true) (rectL h hh r).toLoadRect hl) k) Q := by
  unfold St at *
  iintro ⟨#Hr, #Hlev, Hk, Hv, Hb, Hq, Ho, Hd, Hi, Hu⟩
  ihave Hv := (lane_look m true c sv wv h hh hw) $$ Hv
  unfold lland ldst
  icases Hv with ⟨⟨Hp, Hs⟩, Hv⟩
  rw [← read_plane m true c h hh r] at H
  iapply (wp_load_rect 𝒱₀ (c : Thread nD τ) none Set.univ (plane_acc true h hh r)) $$ Hp
  iintro Hp
  iapply H
  isplitr; · iexact Hr
  isplitr; · iexact Hlev
  ihave Hv := Hv $$ [Hp Hs]
  · isplitl [Hp] <;> iassumption
  iframe

/-! ## The output -/

/-- A load of batch row 0 of the output. -/
theorem st_loadOut0 {hl} {Q : α → sProp 𝕄} {k : (S1x512x768.Idx → Elt F .f32) → Prog (TpuEff nD τ sig (Elt F) Λ₀ .tc) α}
    (H : St m c sk wk sv wv ph tq sq wq rq uo so wo ro ow o0 o1 ⊢ WP c (k o0) Q) :
    St m c sk wk sv wv ph tq sq wq rq uo so wo ro ow o0 o1 ⊢ WP c (.op (.load outM (rectOut 0).toLoadRect hl) k) Q := by
  unfold St outSt at *
  iintro ⟨#Hr, #Hlev, Hk, Hv, Hb, Hq, Ho, Hd, Hi, ⟨%f, %hf, Hu⟩⟩
  iapply (load_all outM c _ f o0 hf.1) $$ Hu
  iintro Hu
  iapply H
  isplitr; · iexact Hr
  isplitr; · iexact Hlev
  iframe
  iexists f
  isplitr; · ipureintro; exact hf
  iexact Hu

/-- A load of batch row 1 of the output. -/
theorem st_loadOut1 {hl} {Q : α → sProp 𝕄} {k : (S1x512x768.Idx → Elt F .f32) → Prog (TpuEff nD τ sig (Elt F) Λ₀ .tc) α}
    (H : St m c sk wk sv wv ph tq sq wq rq uo so wo ro ow o0 o1 ⊢ WP c (k o1) Q) :
    St m c sk wk sv wv ph tq sq wq rq uo so wo ro ow o0 o1 ⊢ WP c (.op (.load outM (rectOut 1).toLoadRect hl) k) Q := by
  unfold St outSt at *
  iintro ⟨#Hr, #Hlev, Hk, Hv, Hb, Hq, Ho, Hd, Hi, ⟨%f, %hf, Hu⟩⟩
  iapply (load_all outM c _ f o1 hf.2) $$ Hu
  iintro Hu
  iapply H
  isplitr; · iexact Hr
  isplitr; · iexact Hlev
  iframe
  iexists f
  isplitr; · ipureintro; exact hf
  iexact Hu

/-- What a batch row holds after a store of the one at hand, and of the other. -/
theorem out_same (r : Fin 2) (f : (cc0_stg3_0 : Ref sig .tc).ty.Contents (Elt F)) (w : S1x512x768.Idx → Elt F .f32) :
    (outM : Memref sig .tc .vmem S2x512x768 .f32).view.readAt (Elt F) (rectOut r).toLoadRect ((outM.access (rectOut r)).write (Elt F) f w Finset.univ) = w :=
  View.read_write_univ (v := outM.access (rectOut r)) f w
theorem out_other (r r' : Fin 2) (h : r ≠ r') (f : (cc0_stg3_0 : Ref sig .tc).ty.Contents (Elt F)) (w : S1x512x768.Idx → Elt F .f32) :
    (outM : Memref sig .tc .vmem S2x512x768 .f32).view.readAt (Elt F) (rectOut r).toLoadRect ((outM.access (rectOut r')).write (Elt F) f w Finset.univ)
      = outM.view.readAt (Elt F) (rectOut r).toLoadRect f := by
  refine View.read_slice_write_slice_of_disjoint (v := outM.view) (rectOut r) (rectOut r') f w Finset.univ ?_
  rw [View.setOn_univ, View.set_slice, View.set_slice]
  refine Finset.disjoint_map _ |>.mpr ?_
  refine Rect.disjoint_of_separated _ _ 0 ?_
  revert h; revert r r'; decide

/-- A store of batch row 0. -/
theorem st_storeOut0 {w : S1x512x768.Idx → Elt F .f32} (n0 : Vec F S1x512x768 .f32) (hn : w = n0) {hx} {hm} {Q : α → sProp 𝕄} {k : PUnit → Prog (TpuEff nD τ sig (Elt F) Λ₀ .tc) α}
    (H : St m c sk wk sv wv ph tq sq wq rq uo so wo ro ow n0 o1 ⊢ WP c (k ⟨⟩) Q) :
    St m c sk wk sv wv ph tq sq wq rq uo so wo ro ow o0 o1 ⊢ WP c (.op (.store outM (rectOut 0) w Finset.univ hx hm) k) Q := by
  subst hn
  unfold St outSt at *
  iintro ⟨#Hr, #Hlev, Hk, Hv, Hb, Hq, Ho, Hd, Hi, ⟨%f, %hf, Hu⟩⟩
  iapply (wp_store 𝒱₀ (c : Thread nD τ) none Set.univ (m := outM) (r := rectOut 0) (Finset.subset_univ _)) $$ Hu
  iintro Hu
  iapply H
  isplitr; · iexact Hr
  isplitr; · iexact Hlev
  iframe
  iexists _
  isplitr; · ipureintro; exact ⟨out_same 0 f w, (out_other 1 0 (by decide) f w).trans hf.2⟩
  iexact Hu

/-- A store of batch row 1. -/
theorem st_storeOut1 {w : S1x512x768.Idx → Elt F .f32} (n1 : Vec F S1x512x768 .f32) (hn : w = n1) {hx} {hm} {Q : α → sProp 𝕄} {k : PUnit → Prog (TpuEff nD τ sig (Elt F) Λ₀ .tc) α}
    (H : St m c sk wk sv wv ph tq sq wq rq uo so wo ro ow o0 n1 ⊢ WP c (k ⟨⟩) Q) :
    St m c sk wk sv wv ph tq sq wq rq uo so wo ro ow o0 o1 ⊢ WP c (.op (.store outM (rectOut 1) w Finset.univ hx hm) k) Q := by
  subst hn
  unfold St outSt at *
  iintro ⟨#Hr, #Hlev, Hk, Hv, Hb, Hq, Ho, Hd, Hi, ⟨%f, %hf, Hu⟩⟩
  iapply (wp_store 𝒱₀ (c : Thread nD τ) none Set.univ (m := outM) (r := rectOut 1) (Finset.subset_univ _)) $$ Hu
  iintro Hu
  iapply H
  isplitr; · iexact Hr
  isplitr; · iexact Hlev
  iframe
  iexists _
  isplitr; · ipureintro; exact ⟨(out_other 0 1 (by decide) f w).trans hf.1, out_same 1 f w⟩
  iexact Hu

/-! ## The barrier -/

/-- The signal one place back. -/
theorem st_signalPrv {n : Dev nD} (hn : n = prv c) {Q : α → sProp 𝕄} {k : PUnit → Prog (TpuEff nD τ sig (Elt F) Λ₀ .tc) α}
    (H : St m c sk wk sv wv 1 tq 0 0 0 uo 0 0 0 7 o0 o1 ⊢ WP c (k ⟨⟩) Q) :
    St m c sk wk sv wv 0 tq 0 0 0 uo 0 0 0 8 o0 o1 ⊢ WP c (.op (.semSignal (n, .tc) barS (1#32).toInt) k) Q := by
  rw [St_at m 1 false false rfl rfl] at H
  rw [St_at m 0 true false rfl rfl]
  iintro ⟨#Hr, #Hlev, Hk, Hv, Hb, Hq, Ho, Hd, Hi, Hu⟩
  iapply (signal_prv m c n hn tq uo) $$ [Hb Hq Ho Hd]
  · isplitr; · iexact Hr
    iframe
  iintro ⟨Hb, Hq, Ho, Hd⟩
  iapply H
  isplitr; · iexact Hr
  isplitr; · iexact Hlev
  iframe

/-- The signal one place on. -/
theorem st_signalNxt {n : Dev nD} (hn : n = nxt c) {Q : α → sProp 𝕄} {k : PUnit → Prog (TpuEff nD τ sig (Elt F) Λ₀ .tc) α}
    (H : St m c sk wk sv wv 2 tq 0 0 0 uo 0 0 0 6 o0 o1 ⊢ WP c (k ⟨⟩) Q) :
    St m c sk wk sv wv 1 tq 0 0 0 uo 0 0 0 7 o0 o1 ⊢ WP c (.op (.semSignal (n, .tc) barS (1#32).toInt) k) Q := by
  rw [St_at m 2 false false rfl rfl] at H
  rw [St_at m 1 false false rfl rfl]
  iintro ⟨#Hr, #Hlev, Hk, Hv, Hb, Hq, Ho, Hd, Hi, Hu⟩
  iapply (signal_nxt m c n hn) $$ [Hb Hd]
  · isplitr; · iexact Hr
    iframe
  iintro ⟨Hb, Hd⟩
  iapply H
  isplitr; · iexact Hr
  isplitr; · iexact Hlev
  iframe

/-- The wait for both neighbours. -/
theorem st_waitBar {Q : α → sProp 𝕄} {k : PUnit → Prog (TpuEff nD τ sig (Elt F) Λ₀ .tc) α}
    (H : St m c sk wk sv wv 3 tq 0 0 0 uo 0 0 0 6 o0 o1 ⊢ WP c (k ⟨⟩) Q) :
    St m c sk wk sv wv 2 tq 0 0 0 uo 0 0 0 6 o0 o1 ⊢ WP c (.op (.semWait barS (2#32).toInt) k) Q := by
  rw [St_at m 3 false true rfl rfl] at H
  rw [St_at m 2 false false rfl rfl]
  iintro ⟨#Hr, #Hlev, Hk, Hv, Hb, Hq, Ho, Hd, Hi, Hu⟩
  iapply (wait_bar m c tq uo) $$ [Hb Hq Ho Hd]
  · isplitr; · iexact Hr
    isplitr; · iexact Hlev
    iframe
  iintro ⟨Hb, Hq, Ho, Hd⟩
  iapply H
  isplitr; · iexact Hr
  isplitr; · iexact Hlev
  iframe

/-! ## The hops -/

/-- The query weights' copy of hop `h` leaves. -/
theorem st_sendQ {n : Dev nD} (hn : n = nxt c) (h : Fin 3) (hs : h.val = sq) (hws : wq ≤ sq := by decide) (hwr : sq ≤ rq := by decide)
    (how : ∀ c, tgt c ow = (some (true, false, h), nxt c))
    {hsc : (slot false h.succ).view.ref.isScScratch = false}
    {hsrc : (slot false h.castSucc).view.WordExact} {hdst : (slot false h.succ).view.WordExact}
    {hsem : (DmaTarget.remote (p := (.tc : Proc τ)) (Dev.tc n : Thread nD τ) (slot false h.succ) (.dma (ssem false h)) hsc).Typed .vmem (.dma (rsem false h))}
    {Q : α → sProp 𝕄} {k : PUnit → Prog (TpuEff nD τ sig (Elt F) Λ₀ .tc) α}
    (H : St m c sk wk sv wv 3 true (sq + 1) wq rq uo so wo ro ow o0 o1 ⊢ WP c (k ⟨⟩) Q) :
    St m c sk wk sv wv 3 true sq wq rq uo so wo ro (ow + 1) o0 o1
      ⊢ WP c (.op (.enqueueDma (slot false h.castSucc) (.remote (Dev.tc n : Thread nD τ) (slot false h.succ) (.dma (ssem false h)) hsc) (.dma (rsem false h)) hsrc hdst hsem) k) Q := by
  rw [St_at m 3 false true rfl rfl] at *
  iintro ⟨#Hr, #Hlev, Hk, Hv, Hb, Hq, Ho, Hd, Hi, Hu⟩
  iapply (send_rule m false c n hn sq wq rq ow h hs hws hwr (how c)) $$ [Hq Hd]
  · isplitr; · iexact Hr
    iframe
  iintro ⟨Hq, Hd⟩
  iapply H
  isplitr; · iexact Hr
  isplitr; · iexact Hlev
  iframe

/-- The output weights' copy of hop `h` leaves. -/
theorem st_sendO {n : Dev nD} (hn : n = nxt c) (h : Fin 3) (hs : h.val = so) (hws : wo ≤ so := by decide) (hwr : so ≤ ro := by decide)
    (how : ∀ c, tgt c ow = (some (true, true, h), nxt c))
    {hsc : (slot true h.succ).view.ref.isScScratch = false}
    {hsrc : (slot true h.castSucc).view.WordExact} {hdst : (slot true h.succ).view.WordExact}
    {hsem : (DmaTarget.remote (p := (.tc : Proc τ)) (Dev.tc n : Thread nD τ) (slot true h.succ) (.dma (ssem true h)) hsc).Typed .vmem (.dma (rsem true h))}
    {Q : α → sProp 𝕄} {k : PUnit → Prog (TpuEff nD τ sig (Elt F) Λ₀ .tc) α}
    (H : St m c sk wk sv wv 3 tq sq wq rq true (so + 1) wo ro ow o0 o1 ⊢ WP c (k ⟨⟩) Q) :
    St m c sk wk sv wv 3 tq sq wq rq true so wo ro (ow + 1) o0 o1
      ⊢ WP c (.op (.enqueueDma (slot true h.castSucc) (.remote (Dev.tc n : Thread nD τ) (slot true h.succ) (.dma (ssem true h)) hsc) (.dma (rsem true h)) hsrc hdst hsem) k) Q := by
  rw [St_at m 3 false true rfl rfl] at *
  iintro ⟨#Hr, #Hlev, Hk, Hv, Hb, Hq, Ho, Hd, Hi, Hu⟩
  iapply (send_rule m true c n hn so wo ro ow h hs hws hwr (how c)) $$ [Ho Hd]
  · isplitr; · iexact Hr
    iframe
  iintro ⟨Ho, Hd⟩
  iapply H
  isplitr; · iexact Hr
  isplitr; · iexact Hlev
  iframe

/-- The query weights' copy of hop `h` has left. -/
theorem st_sentQ (h : Fin 3) (hs : h.val = wq) (hws : wq < sq := by decide) (hwr : wq ≤ rq := by decide)
    (how : ∀ c, ∀ k < ow, 0 < lvOf (tgt c k).1) {sps : Space} {ss : Shape} {es : EltTy} {srcw : Memref sig .tc sps ss es}
    {h1 : srcw.view.WordExact} {h2 : (slot false h.castSucc).view.WordExact}
    {Q : α → sProp 𝕄} {k : PUnit → Prog (TpuEff nD τ sig (Elt F) Λ₀ .tc) α}
    (H : St m c sk wk sv wv 3 true sq (wq + 1) rq uo so wo ro ow o0 o1 ⊢ WP c (k ⟨⟩) Q) :
    St m c sk wk sv wv 3 true sq wq rq uo so wo ro ow o0 o1 ⊢ WP c (.op (.waitDma2 (ssem false h) srcw (slot false h.castSucc) h1 h2) k) Q := by
  rw [St_at m 3 false true rfl rfl] at *
  iintro ⟨#Hr, #Hlev, Hk, Hv, Hb, Hq, Ho, Hd, Hi, Hu⟩
  iapply (sent_rule m false c sq wq rq ow h hs hws hwr (how c)) $$ [Hq Hd]
  · isplitr; · iexact Hr
    isplitr; · iexact Hlev
    iframe
  iintro ⟨Hq, Hd⟩
  iapply H
  isplitr; · iexact Hr
  isplitr; · iexact Hlev
  iframe

/-- The output weights' copy of hop `h` has left. -/
theorem st_sentO (h : Fin 3) (hs : h.val = wo) (hws : wo < so := by decide) (hwr : wo ≤ ro := by decide)
    (how : ∀ c, ∀ k < ow, 0 < lvOf (tgt c k).1) {sps : Space} {ss : Shape} {es : EltTy} {srcw : Memref sig .tc sps ss es}
    {h1 : srcw.view.WordExact} {h2 : (slot true h.castSucc).view.WordExact}
    {Q : α → sProp 𝕄} {k : PUnit → Prog (TpuEff nD τ sig (Elt F) Λ₀ .tc) α}
    (H : St m c sk wk sv wv 3 tq sq wq rq true so (wo + 1) ro ow o0 o1 ⊢ WP c (k ⟨⟩) Q) :
    St m c sk wk sv wv 3 tq sq wq rq true so wo ro ow o0 o1 ⊢ WP c (.op (.waitDma2 (ssem true h) srcw (slot true h.castSucc) h1 h2) k) Q := by
  rw [St_at m 3 false true rfl rfl] at *
  iintro ⟨#Hr, #Hlev, Hk, Hv, Hb, Hq, Ho, Hd, Hi, Hu⟩
  iapply (sent_rule m true c so wo ro ow h hs hws hwr (how c)) $$ [Ho Hd]
  · isplitr; · iexact Hr
    isplitr; · iexact Hlev
    iframe
  iintro ⟨Ho, Hd⟩
  iapply H
  isplitr; · iexact Hr
  isplitr; · iexact Hlev
  iframe

/-- The query weights' copy of the previous device's hop `h` has landed. -/
theorem st_recvQ (h : Fin 3) (hs : h.val = rq) (hwr : sq ≤ rq + 1 := by decide)
    (how : ∀ c, ∀ k < ow, 2 + h.val < lvOf (tgt c k).1) {sps : Space} {ss : Shape} {es : EltTy} {srcw : Memref sig .tc sps ss es}
    {h1 : srcw.view.WordExact} {h2 : (slot false h.succ).view.WordExact}
    {Q : α → sProp 𝕄} {k : PUnit → Prog (TpuEff nD τ sig (Elt F) Λ₀ .tc) α}
    (H : St m c sk wk sv wv 3 true sq wq (rq + 1) uo so wo ro ow o0 o1 ⊢ WP c (k ⟨⟩) Q) :
    St m c sk wk sv wv 3 true sq wq rq uo so wo ro ow o0 o1 ⊢ WP c (.op (.waitDma2 (rsem false h) srcw (slot false h.succ) h1 h2) k) Q := by
  rw [St_at m 3 false true rfl rfl] at *
  iintro ⟨#Hr, #Hlev, Hk, Hv, Hb, Hq, Ho, Hd, Hi, Hu⟩
  iapply (recv_rule m false c sq wq rq ow h hs hwr (how c)) $$ [Hq Hd]
  · isplitr; · iexact Hr
    isplitr; · iexact Hlev
    iframe
  iintro ⟨Hq, Hd⟩
  iapply H
  isplitr; · iexact Hr
  isplitr; · iexact Hlev
  iframe

/-- The output weights' copy of the previous device's hop `h` has landed. -/
theorem st_recvO (h : Fin 3) (hs : h.val = ro) (hwr : so ≤ ro + 1 := by decide)
    (how : ∀ c, ∀ k < ow, 2 + h.val < lvOf (tgt c k).1) {sps : Space} {ss : Shape} {es : EltTy} {srcw : Memref sig .tc sps ss es}
    {h1 : srcw.view.WordExact} {h2 : (slot true h.succ).view.WordExact}
    {Q : α → sProp 𝕄} {k : PUnit → Prog (TpuEff nD τ sig (Elt F) Λ₀ .tc) α}
    (H : St m c sk wk sv wv 3 tq sq wq rq true so wo (ro + 1) ow o0 o1 ⊢ WP c (k ⟨⟩) Q) :
    St m c sk wk sv wv 3 tq sq wq rq true so wo ro ow o0 o1 ⊢ WP c (.op (.waitDma2 (rsem true h) srcw (slot true h.succ) h1 h2) k) Q := by
  rw [St_at m 3 false true rfl rfl] at *
  iintro ⟨#Hr, #Hlev, Hk, Hv, Hb, Hq, Ho, Hd, Hi, Hu⟩
  iapply (recv_rule m true c so wo ro ow h hs hwr (how c)) $$ [Ho Hd]
  · isplitr; · iexact Hr
    isplitr; · iexact Hlev
    iframe
  iintro ⟨Ho, Hd⟩
  iapply H
  isplitr; · iexact Hr
  isplitr; · iexact Hlev
  iframe

end Cert.Attn
-- ==== Proof.Glue.lean ====
/-
The body's parts take their buffers as arguments; here they are given the launch's own. And the levels of what a device still
owes, for the waits of the hops.
-/
module

public import proofs.«01_k».proof.Proof.Reads

@[expose] public section

noncomputable section

universe u

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

/-- A part of the body over the launch's own buffers. -/
abbrev on {R : Sort u} (p : (arg0 : Memref sig .tc .vmem S2x512x768 .f32) → arg0.IsWhole → (arg1 : Memref sig .tc .vmem S768x512 .f32) → arg1.IsWhole
    → (arg2 : Memref sig .tc .hbm S8x512x32x64 .f32) → arg2.IsWhole → (arg3 : Memref sig .tc .hbm S8x512x32x64 .f32) → arg3.IsWhole
    → (arg4 : Memref sig .tc .vmem S512x768 .f32) → arg4.IsWhole → (arg5 : Memref sig .tc .vmem S2x512x768 .f32) → arg5.IsWhole
    → (arg6 : Memref sig .tc .vmem S4x768x512 .bf16) → arg6.IsWhole → (arg7 : Memref sig .tc .vmem S4x512x768 .bf16) → arg7.IsWhole
    → (arg8 : Memref sig .tc .vmem S4x8x2x512x64 .f32) → arg8.IsWhole → (arg9 : Memref sig .tc .vmem S4x8x2x512x64 .f32) → arg9.IsWhole
    → DmaSems sig S3 → DmaSems sig S3 → DmaSems sig S3 → DmaSems sig S3 → DmaSems sig S32 → DmaSems sig S32 → R) : R :=
  p (Memref.whole cc0_stg0_0) (Memref.isWhole_whole _) (Memref.whole cc0_stg1_0) (Memref.isWhole_whole _)
    (Memref.whole main_arg2) (Memref.isWhole_whole _) (Memref.whole main_arg3) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scratch8 cc0_scratch9

/-- What is owed once hop `h` has been sent on lies above the send cells, and above the receive cells of hop `h`. -/
theorem recv_low (h : Fin 3) : ∀ c : Dev nD, ∀ k < 4 - 2 * h.val, 2 + h.val < lvOf (tgt c k).1 := by
  have key : ∀ (h : Fin 3) (c : Dev nD) (k : Fin 4), k.val < 4 - 2 * h.val → 2 + h.val < lvOf (tgt c k.val).1 := by decide
  exact fun c k hk => key h c ⟨k, by omega⟩ hk
theorem sent_low (h : Fin 3) : ∀ c : Dev nD, ∀ k < 4 - 2 * h.val, 0 < lvOf (tgt c k).1 := fun c k hk =>
  (Nat.zero_le _).trans_lt (recv_low h c k hk)

end Cert.Attn
-- ==== Proof.PartsA.lean ====
/-
The first stretch of the body: the copies of the planes.
-/
module

public import proofs.«01_k».proof.Proof.Glue

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

theorem part1 {Q : α → sProp 𝕄} {k : (Σ' (d0 : Dev nD) (v2 : BitVec 32) (v5 : BitVec 32) (v7 : BitVec 32), BitVec 32) → Prog (TpuEff nD τ sig (Elt F) Λ₀ .tc) α}
    (H : St m c 1 0 1 0 0 false 0 0 0 false 0 0 0 8 o0 o1 ⊢ WP c (k ⟨(c), (Scalar.remsi (Scalar.divsi (Dev.word (c)) 1#32) 4#32), (Scalar.remsi (Scalar.addi (Scalar.subi (Scalar.remsi (Scalar.divsi (Dev.word (c)) 1#32) 4#32) 1#32) 4#32) 4#32), (Scalar.remsi (Scalar.addi (Scalar.remsi (Scalar.divsi (Dev.word (c)) 1#32) 4#32) 1#32) 4#32), (Scalar.remsi (Scalar.addi (Scalar.subi (Scalar.remsi (Scalar.divsi (Dev.word (c)) 1#32) 4#32) 0#32) 4#32) 4#32)⟩) Q) :
    St m c 0 0 0 0 0 false 0 0 0 false 0 0 0 8 o0 o1 ⊢ WP c (on (k0_part1 (F := F))  >>= k) Q := by
  unfold on; rw [k0_part1_eq_skeleton]; unfold k0_part1_skel
  simp only [semSignalWord, semWaitWord, Prog.lift, Prog.bind_op, Prog.bind_ret, Prog.pure_eq_ret, wp_deviceId]
  refine st_startK m (H := ?_)
  refine st_startV m (H := ?_)
  exact H

theorem part2 {v2 : BitVec 32} {v10 : BitVec 32} {Q : α → sProp 𝕄} {k : (BitVec 32) → Prog (TpuEff nD τ sig (Elt F) Λ₀ .tc) α}
    (H : St m c 3 0 2 0 0 false 0 0 0 false 0 0 0 8 o0 o1 ⊢ WP c (k 2#32) Q) :
    St m c 1 0 1 0 0 false 0 0 0 false 0 0 0 8 o0 o1 ⊢ WP c (on (k0_part2 (F := F)) c v2 v10 >>= k) Q := by
  unfold on; rw [k0_part2_eq_skeleton]; unfold k0_part2_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part3 {v2 : BitVec 32} {v10 : BitVec 32} {c2_i32_56 : BitVec 32} {Q : α → sProp 𝕄} {k : (PUnit) → Prog (TpuEff nD τ sig (Elt F) Λ₀ .tc) α}
    (H : St m c 4 0 4 0 0 false 0 0 0 false 0 0 0 8 o0 o1 ⊢ WP c (k ⟨⟩) Q) :
    St m c 3 0 2 0 0 false 0 0 0 false 0 0 0 8 o0 o1 ⊢ WP c (on (k0_part3 (F := F)) c v2 v10 c2_i32_56 >>= k) Q := by
  unfold on; rw [k0_part3_eq_skeleton]; unfold k0_part3_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part4 {v2 : BitVec 32} {v10 : BitVec 32} {Q : α → sProp 𝕄} {k : (PUnit) → Prog (TpuEff nD τ sig (Elt F) Λ₀ .tc) α}
    (H : St m c 6 0 5 0 0 false 0 0 0 false 0 0 0 8 o0 o1 ⊢ WP c (k ⟨⟩) Q) :
    St m c 4 0 4 0 0 false 0 0 0 false 0 0 0 8 o0 o1 ⊢ WP c (on (k0_part4 (F := F)) c v2 v10 >>= k) Q := by
  unfold on; rw [k0_part4_eq_skeleton]; unfold k0_part4_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part5 {v2 : BitVec 32} {v10 : BitVec 32} {Q : α → sProp 𝕄} {k : (PUnit) → Prog (TpuEff nD τ sig (Elt F) Λ₀ .tc) α}
    (H : St m c 7 0 7 0 0 false 0 0 0 false 0 0 0 8 o0 o1 ⊢ WP c (k ⟨⟩) Q) :
    St m c 6 0 5 0 0 false 0 0 0 false 0 0 0 8 o0 o1 ⊢ WP c (on (k0_part5 (F := F)) c v2 v10 >>= k) Q := by
  unfold on; rw [k0_part5_eq_skeleton]; unfold k0_part5_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part6 {v2 : BitVec 32} {Q : α → sProp 𝕄} {k : (BitVec 32) → Prog (TpuEff nD τ sig (Elt F) Λ₀ .tc) α}
    (H : St m c 9 0 8 0 0 false 0 0 0 false 0 0 0 8 o0 o1 ⊢ WP c (k (Scalar.remsi (Scalar.addi (Scalar.subi v2 1#32) 4#32) 4#32)) Q) :
    St m c 7 0 7 0 0 false 0 0 0 false 0 0 0 8 o0 o1 ⊢ WP c (on (k0_part6 (F := F)) c v2 >>= k) Q := by
  unfold on; rw [k0_part6_eq_skeleton]; unfold k0_part6_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part7 {v2 : BitVec 32} {v141 : BitVec 32} {Q : α → sProp 𝕄} {k : (PUnit) → Prog (TpuEff nD τ sig (Elt F) Λ₀ .tc) α}
    (H : St m c 10 0 10 0 0 false 0 0 0 false 0 0 0 8 o0 o1 ⊢ WP c (k ⟨⟩) Q) :
    St m c 9 0 8 0 0 false 0 0 0 false 0 0 0 8 o0 o1 ⊢ WP c (on (k0_part7 (F := F)) c v2 v141 >>= k) Q := by
  unfold on; rw [k0_part7_eq_skeleton]; unfold k0_part7_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part8 {v2 : BitVec 32} {v141 : BitVec 32} {Q : α → sProp 𝕄} {k : (PUnit) → Prog (TpuEff nD τ sig (Elt F) Λ₀ .tc) α}
    (H : St m c 12 0 11 0 0 false 0 0 0 false 0 0 0 8 o0 o1 ⊢ WP c (k ⟨⟩) Q) :
    St m c 10 0 10 0 0 false 0 0 0 false 0 0 0 8 o0 o1 ⊢ WP c (on (k0_part8 (F := F)) c v2 v141 >>= k) Q := by
  unfold on; rw [k0_part8_eq_skeleton]; unfold k0_part8_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part9 {v2 : BitVec 32} {v141 : BitVec 32} {Q : α → sProp 𝕄} {k : (PUnit) → Prog (TpuEff nD τ sig (Elt F) Λ₀ .tc) α}
    (H : St m c 13 0 13 0 0 false 0 0 0 false 0 0 0 8 o0 o1 ⊢ WP c (k ⟨⟩) Q) :
    St m c 12 0 11 0 0 false 0 0 0 false 0 0 0 8 o0 o1 ⊢ WP c (on (k0_part9 (F := F)) c v2 v141 >>= k) Q := by
  unfold on; rw [k0_part9_eq_skeleton]; unfold k0_part9_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part10 {v2 : BitVec 32} {v141 : BitVec 32} {Q : α → sProp 𝕄} {k : (BitVec 32) → Prog (TpuEff nD τ sig (Elt F) Λ₀ .tc) α}
    (H : St m c 15 0 15 0 0 false 0 0 0 false 0 0 0 8 o0 o1 ⊢ WP c (k (Scalar.muli v141 8#32)) Q) :
    St m c 13 0 13 0 0 false 0 0 0 false 0 0 0 8 o0 o1 ⊢ WP c (on (k0_part10 (F := F)) c v2 v141 >>= k) Q := by
  unfold on; rw [k0_part10_eq_skeleton]; unfold k0_part10_skel
  simp only [semSignalWord, semWaitWord, Prog.lift, Prog.bind_op, Prog.bind_ret, Prog.pure_eq_ret, wp_deviceId]
  iterate 2 (refine st_startK m (H := ?_); refine st_startV m (H := ?_))
  exact H

theorem part11 {v2 : BitVec 32} {v254 : BitVec 32} {Q : α → sProp 𝕄} {k : (BitVec 32) → Prog (TpuEff nD τ sig (Elt F) Λ₀ .tc) α}
    (H : St m c 16 0 16 0 0 false 0 0 0 false 0 0 0 8 o0 o1 ⊢ WP c (k (Scalar.remsi (Scalar.addi (Scalar.subi v2 2#32) 4#32) 4#32)) Q) :
    St m c 15 0 15 0 0 false 0 0 0 false 0 0 0 8 o0 o1 ⊢ WP c (on (k0_part11 (F := F)) c v2 v254 >>= k) Q := by
  unfold on; rw [k0_part11_eq_skeleton]; unfold k0_part11_skel
  simp only [semSignalWord, semWaitWord, Prog.lift, Prog.bind_op, Prog.bind_ret, Prog.pure_eq_ret, wp_deviceId]
  refine st_startK m (H := ?_)
  refine st_startV m (H := ?_)
  exact H

theorem part12 {v2 : BitVec 32} {v272 : BitVec 32} {Q : α → sProp 𝕄} {k : (BitVec 32) → Prog (TpuEff nD τ sig (Elt F) Λ₀ .tc) α}
    (H : St m c 18 0 18 0 0 false 0 0 0 false 0 0 0 8 o0 o1 ⊢ WP c (k (Scalar.muli v272 8#32)) Q) :
    St m c 16 0 16 0 0 false 0 0 0 false 0 0 0 8 o0 o1 ⊢ WP c (on (k0_part12 (F := F)) c v2 v272 >>= k) Q := by
  unfold on; rw [k0_part12_eq_skeleton]; unfold k0_part12_skel
  simp only [semSignalWord, semWaitWord, Prog.lift, Prog.bind_op, Prog.bind_ret, Prog.pure_eq_ret, wp_deviceId]
  iterate 2 (refine st_startK m (H := ?_); refine st_startV m (H := ?_))
  exact H

theorem part13 {v2 : BitVec 32} {v272 : BitVec 32} {v305 : BitVec 32} {Q : α → sProp 𝕄} {k : (PUnit) → Prog (TpuEff nD τ sig (Elt F) Λ₀ .tc) α}
    (H : St m c 20 0 19 0 0 false 0 0 0 false 0 0 0 8 o0 o1 ⊢ WP c (k ⟨⟩) Q) :
    St m c 18 0 18 0 0 false 0 0 0 false 0 0 0 8 o0 o1 ⊢ WP c (on (k0_part13 (F := F)) c v2 v272 v305 >>= k) Q := by
  unfold on; rw [k0_part13_eq_skeleton]; unfold k0_part13_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part14 {v2 : BitVec 32} {v272 : BitVec 32} {Q : α → sProp 𝕄} {k : (PUnit) → Prog (TpuEff nD τ sig (Elt F) Λ₀ .tc) α}
    (H : St m c 21 0 21 0 0 false 0 0 0 false 0 0 0 8 o0 o1 ⊢ WP c (k ⟨⟩) Q) :
    St m c 20 0 19 0 0 false 0 0 0 false 0 0 0 8 o0 o1 ⊢ WP c (on (k0_part14 (F := F)) c v2 v272 >>= k) Q := by
  unfold on; rw [k0_part14_eq_skeleton]; unfold k0_part14_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part15 {v2 : BitVec 32} {v272 : BitVec 32} {Q : α → sProp 𝕄} {k : (PUnit) → Prog (TpuEff nD τ sig (Elt F) Λ₀ .tc) α}
    (H : St m c 23 0 22 0 0 false 0 0 0 false 0 0 0 8 o0 o1 ⊢ WP c (k ⟨⟩) Q) :
    St m c 21 0 21 0 0 false 0 0 0 false 0 0 0 8 o0 o1 ⊢ WP c (on (k0_part15 (F := F)) c v2 v272 >>= k) Q := by
  unfold on; rw [k0_part15_eq_skeleton]; unfold k0_part15_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part16 {v2 : BitVec 32} {v272 : BitVec 32} {Q : α → sProp 𝕄} {k : (BitVec 32) → Prog (TpuEff nD τ sig (Elt F) Λ₀ .tc) α}
    (H : St m c 24 0 24 0 0 false 0 0 0 false 0 0 0 8 o0 o1 ⊢ WP c (k (Scalar.remsi (Scalar.addi (Scalar.subi v2 3#32) 4#32) 4#32)) Q) :
    St m c 23 0 22 0 0 false 0 0 0 false 0 0 0 8 o0 o1 ⊢ WP c (on (k0_part16 (F := F)) c v2 v272 >>= k) Q := by
  unfold on; rw [k0_part16_eq_skeleton]; unfold k0_part16_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part17 {v2 : BitVec 32} {v403 : BitVec 32} {Q : α → sProp 𝕄} {k : (PUnit) → Prog (TpuEff nD τ sig (Elt F) Λ₀ .tc) α}
    (H : St m c 26 0 25 0 0 false 0 0 0 false 0 0 0 8 o0 o1 ⊢ WP c (k ⟨⟩) Q) :
    St m c 24 0 24 0 0 false 0 0 0 false 0 0 0 8 o0 o1 ⊢ WP c (on (k0_part17 (F := F)) c v2 v403 >>= k) Q := by
  unfold on; rw [k0_part17_eq_skeleton]; unfold k0_part17_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part18 {v2 : BitVec 32} {v403 : BitVec 32} {Q : α → sProp 𝕄} {k : (PUnit) → Prog (TpuEff nD τ sig (Elt F) Λ₀ .tc) α}
    (H : St m c 27 0 27 0 0 false 0 0 0 false 0 0 0 8 o0 o1 ⊢ WP c (k ⟨⟩) Q) :
    St m c 26 0 25 0 0 false 0 0 0 false 0 0 0 8 o0 o1 ⊢ WP c (on (k0_part18 (F := F)) c v2 v403 >>= k) Q := by
  unfold on; rw [k0_part18_eq_skeleton]; unfold k0_part18_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part19 {v2 : BitVec 32} {v403 : BitVec 32} {Q : α → sProp 𝕄} {k : (PUnit) → Prog (TpuEff nD τ sig (Elt F) Λ₀ .tc) α}
    (H : St m c 29 0 28 0 0 false 0 0 0 false 0 0 0 8 o0 o1 ⊢ WP c (k ⟨⟩) Q) :
    St m c 27 0 27 0 0 false 0 0 0 false 0 0 0 8 o0 o1 ⊢ WP c (on (k0_part19 (F := F)) c v2 v403 >>= k) Q := by
  unfold on; rw [k0_part19_eq_skeleton]; unfold k0_part19_skel
  simp only [semSignalWord, semWaitWord, Prog.lift, Prog.bind_op, Prog.bind_ret, Prog.pure_eq_ret, wp_deviceId]
  refine st_startK m (H := ?_)
  refine st_startV m (H := ?_)
  refine st_startK m (H := ?_)
  exact H

theorem part20 {v2 : BitVec 32} {v403 : BitVec 32} {Q : α → sProp 𝕄} {k : (PUnit) → Prog (TpuEff nD τ sig (Elt F) Λ₀ .tc) α}
    (H : St m c 30 0 30 0 0 false 0 0 0 false 0 0 0 8 o0 o1 ⊢ WP c (k ⟨⟩) Q) :
    St m c 29 0 28 0 0 false 0 0 0 false 0 0 0 8 o0 o1 ⊢ WP c (on (k0_part20 (F := F)) c v2 v403 >>= k) Q := by
  unfold on; rw [k0_part20_eq_skeleton]; unfold k0_part20_skel
  simp only [semSignalWord, semWaitWord, Prog.lift, Prog.bind_op, Prog.bind_ret, Prog.pure_eq_ret, wp_deviceId]
  refine st_startV m (H := ?_)
  refine st_startK m (H := ?_)
  refine st_startV m (H := ?_)
  exact H

theorem part21 {v2 : BitVec 32} {v403 : BitVec 32} {Q : α → sProp 𝕄} {k : (FVec F S768x512 .f32) → Prog (TpuEff nD τ sig (Elt F) Λ₀ .tc) α}
    (H : St m c 32 0 32 0 0 false 0 0 0 false 0 0 0 8 o0 o1 ⊢ WP c (k (k0_pay2 (wqIn m c))) Q) :
    St m c 30 0 30 0 0 false 0 0 0 false 0 0 0 8 o0 o1 ⊢ WP c (on (k0_part21 (F := F)) c v2 v403 >>= k) Q := by
  unfold on; rw [k0_part21_eq_skeleton]; unfold k0_part21_skel
  simp only [semSignalWord, semWaitWord, Prog.lift, Prog.bind_op, Prog.bind_ret, Prog.pure_eq_ret, wp_deviceId]
  iterate 2 (refine st_startK m (H := ?_); refine st_startV m (H := ?_))
  refine st_loadWq m ?_
  exact H

end Cert.Attn
-- ==== Proof.PartsB.lean ====
/-
The second stretch: the slots 0, the barrier, the first hop leaves, ring step 0.
-/
module

public import proofs.«01_k».proof.Proof.Glue

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

theorem part22 {v5 : BitVec 32} {v7 : BitVec 32} {v533 : FVec F S768x512 .f32} (hw : (k0_pay3 v533) = QS m c) {Q : α → sProp 𝕄} {k : (Σ' (v551 : FVec F S2x512x768 .bf16) (v552 : IVec S512x512 32) (c64_i32 : BitVec 32) (v554 : IVec S512x512 32) (v561 : IVec S512x512 32) (v563 : BitVec 32), BitVec 1) → Prog (TpuEff nD τ sig (Elt F) Λ₀ .tc) α}
    (H : St m c 32 0 32 0 3 true 0 0 0 true 0 0 0 6 o0 o1 ⊢ WP c (k ⟨k0_pay5 (xIn m c), (iota .tc S512x512 32 [0] iota_S512x512_d0_w32), 64#32, k0_pay6, k0_pay7, (Scalar.extui (Scalar.cmpi .sgt 64#32 0#32)), (Scalar.cmpi .slt 64#32 0#32)⟩) Q) :
    St m c 32 0 32 0 0 false 0 0 0 false 0 0 0 8 o0 o1 ⊢ WP c (on (k0_part22 (F := F)) c v5 v7 v533 >>= k) Q := by
  unfold on; rw [k0_part22_eq_skeleton]; unfold k0_part22_skel
  simp only [semSignalWord, semWaitWord, Prog.lift, Prog.bind_op, Prog.bind_ret, Prog.pure_eq_ret, wp_deviceId]
  refine st_peekQ m (H := fun _ => ?_)
  refine st_storeQ m hw ?_
  refine st_loadWo m ?_
  refine st_peekO m (H := fun _ => ?_)
  refine st_storeO m rfl ?_
  refine st_signalPrv m (dev1_eq c) ?_
  refine st_signalNxt m (dev2_eq c) ?_
  refine st_waitBar m ?_
  refine st_loadX m ?_
  exact H

theorem part23 {v7 : BitVec 32} {v552 : IVec S512x512 32} {c64_i32 : BitVec 32} {v554 : IVec S512x512 32} {v561 : IVec S512x512 32} {v563 : BitVec 32} {v564 : BitVec 1} {Q : α → sProp 𝕄} {k : (FVec F S512x512 .bf16) → Prog (TpuEff nD τ sig (Elt F) Λ₀ .tc) α}
    (H : St m c 32 0 32 0 3 true 0 0 0 true 0 0 0 6 o0 o1 ⊢ WP c (k (k0_pay8 (F := F) v552 c64_i32 v554 v561 v563 v564)) Q) :
    St m c 32 0 32 0 3 true 0 0 0 true 0 0 0 6 o0 o1 ⊢ WP c (on (k0_part23 (F := F)) v7 v552 c64_i32 v554 v561 v563 v564 >>= k) Q := by
  unfold on; rw [k0_part23_eq_skeleton]; unfold k0_part23_skel
  simp only [semSignalWord, semWaitWord, Prog.lift, Prog.bind_op, Prog.bind_ret, Prog.pure_eq_ret, wp_deviceId]
  exact H

theorem part24 {v7 : BitVec 32} {Q : α → sProp 𝕄} {k : (PUnit) → Prog (TpuEff nD τ sig (Elt F) Λ₀ .tc) α}
    (H : St m c 32 1 32 0 3 true 1 0 0 true 1 0 0 4 o0 o1 ⊢ WP c (k ⟨⟩) Q) :
    St m c 32 0 32 0 3 true 0 0 0 true 0 0 0 6 o0 o1 ⊢ WP c (on (k0_part24 (F := F)) c v7 >>= k) Q := by
  unfold on; rw [k0_part24_eq_skeleton]; unfold k0_part24_skel
  simp only [semSignalWord, semWaitWord, Prog.lift, Prog.bind_op, Prog.bind_ret, Prog.pure_eq_ret, wp_deviceId]
  refine st_sendQ m (dev3_eq c) 0 (hs := rfl) (how := fun _ => rfl) (H := ?_)
  refine st_sendO m (dev4_eq c) 0 (hs := rfl) (how := fun _ => rfl) (H := ?_)
  refine st_waitK m (H := ?_)
  exact H

theorem part25 {Q : α → sProp 𝕄} {k : (PUnit) → Prog (TpuEff nD τ sig (Elt F) Λ₀ .tc) α}
    (H : St m c 32 3 32 2 3 true 1 0 0 true 1 0 0 4 o0 o1 ⊢ WP c (k ⟨⟩) Q) :
    St m c 32 1 32 0 3 true 1 0 0 true 1 0 0 4 o0 o1 ⊢ WP c (on (k0_part25 (F := F)) c >>= k) Q := by
  unfold on; rw [k0_part25_eq_skeleton]; unfold k0_part25_skel
  simp only [semSignalWord, semWaitWord, Prog.lift, Prog.bind_op, Prog.bind_ret, Prog.pure_eq_ret, wp_deviceId]
  iterate 2 (refine st_waitV m (H := ?_); refine st_waitK m (H := ?_))
  exact H

theorem part26 {Q : α → sProp 𝕄} {k : (PUnit) → Prog (TpuEff nD τ sig (Elt F) Λ₀ .tc) α}
    (H : St m c 32 5 32 4 3 true 1 0 0 true 1 0 0 4 o0 o1 ⊢ WP c (k ⟨⟩) Q) :
    St m c 32 3 32 2 3 true 1 0 0 true 1 0 0 4 o0 o1 ⊢ WP c (on (k0_part26 (F := F)) c >>= k) Q := by
  unfold on; rw [k0_part26_eq_skeleton]; unfold k0_part26_skel
  simp only [semSignalWord, semWaitWord, Prog.lift, Prog.bind_op, Prog.bind_ret, Prog.pure_eq_ret, wp_deviceId]
  iterate 2 (refine st_waitV m (H := ?_); refine st_waitK m (H := ?_))
  exact H

theorem part27 {Q : α → sProp 𝕄} {k : (PUnit) → Prog (TpuEff nD τ sig (Elt F) Λ₀ .tc) α}
    (H : St m c 32 7 32 6 3 true 1 0 0 true 1 0 0 4 o0 o1 ⊢ WP c (k ⟨⟩) Q) :
    St m c 32 5 32 4 3 true 1 0 0 true 1 0 0 4 o0 o1 ⊢ WP c (on (k0_part27 (F := F)) c >>= k) Q := by
  unfold on; rw [k0_part27_eq_skeleton]; unfold k0_part27_skel
  simp only [semSignalWord, semWaitWord, Prog.lift, Prog.bind_op, Prog.bind_ret, Prog.pure_eq_ret, wp_deviceId]
  iterate 2 (refine st_waitV m (H := ?_); refine st_waitK m (H := ?_))
  exact H

theorem part28 {v551 : FVec F S2x512x768 .bf16} {Q : α → sProp 𝕄} {k : (Σ' (v723 : FVec F S768x512 .bf16) (v725 : FVec F S512x768 .bf16) (v731 : FVec F S512x512 .bf16) (v732 : FVec F S512x64 .bf16), FVec F S512x64 .bf16) → Prog (TpuEff nD τ sig (Elt F) Λ₀ .tc) α}
    (H : St m c 32 8 32 8 3 true 1 0 0 true 1 0 0 4 o0 o1 ⊢ WP c (k ⟨k0_pay9 (QS m (back c 0)), k0_pay10 (OS m (back c 0)), k0_pay11 v551 (QS m (back c 0)), k0_pay12 v551 (QS m (back c 0)), k0_pay13 (plane m false c 0 0 0)⟩) Q) :
    St m c 32 7 32 6 3 true 1 0 0 true 1 0 0 4 o0 o1 ⊢ WP c (on (k0_part28 (F := F)) c v551 >>= k) Q := by
  unfold on; rw [k0_part28_eq_skeleton]; unfold k0_part28_skel
  simp only [semSignalWord, semWaitWord, Prog.lift, Prog.bind_op, Prog.bind_ret, Prog.pure_eq_ret, wp_deviceId]
  refine st_waitV m (H := ?_)
  refine st_waitK m (H := ?_)
  refine st_waitV m (H := ?_)
  refine st_loadQ m 0 (H := ?_)
  refine st_loadO m 0 (H := ?_)
  refine st_loadK m 0 0 0 (H := ?_)
  exact H

theorem part29 {v605 : FVec F S512x512 .bf16} {v731 : FVec F S512x512 .bf16} {v732 : FVec F S512x64 .bf16} {v735 : FVec F S512x64 .bf16} {Q : α → sProp 𝕄} {k : (Σ' (v748 : FVec F S512x64 .f32) (v765 : FVec F S512x64 .f32) (v766 : FVec F S512x64 .bf16), FVec F S512x64 .bf16) → Prog (TpuEff nD τ sig (Elt F) Λ₀ .tc) α}
    (H : St m c 32 8 32 8 3 true 1 0 0 true 1 0 0 4 o0 o1 ⊢ WP c (k ⟨k0_pay14 v605 v732 v735 (plane m true c 0 0 0), k0_pay15 v605 v731 (plane m false c 0 1 0) (plane m true c 0 1 0), k0_pay16 v731, k0_pay17 (plane m false c 0 2 0)⟩) Q) :
    St m c 32 8 32 8 3 true 1 0 0 true 1 0 0 4 o0 o1 ⊢ WP c (on (k0_part29 (F := F)) v605 v731 v732 v735 >>= k) Q := by
  unfold on; rw [k0_part29_eq_skeleton]; unfold k0_part29_skel
  simp only [semSignalWord, semWaitWord, Prog.lift, Prog.bind_op, Prog.bind_ret, Prog.pure_eq_ret, wp_deviceId]
  refine st_loadV m 0 0 0 (H := ?_)
  refine st_loadK m 0 1 0 (H := ?_)
  refine st_loadV m 0 1 0 (H := ?_)
  refine st_loadK m 0 2 0 (H := ?_)
  exact H

theorem part30 {v605 : FVec F S512x512 .bf16} {v731 : FVec F S512x512 .bf16} {v766 : FVec F S512x64 .bf16} {v769 : FVec F S512x64 .bf16} {Q : α → sProp 𝕄} {k : (Σ' (v782 : FVec F S512x64 .f32) (v799 : FVec F S512x64 .f32) (v800 : FVec F S512x64 .bf16), FVec F S512x64 .bf16) → Prog (TpuEff nD τ sig (Elt F) Λ₀ .tc) α}
    (H : St m c 32 8 32 8 3 true 1 0 0 true 1 0 0 4 o0 o1 ⊢ WP c (k ⟨k0_pay18 v605 v766 v769 (plane m true c 0 2 0), k0_pay19 v605 v731 (plane m false c 0 3 0) (plane m true c 0 3 0), k0_pay20 v731, k0_pay21 (plane m false c 0 4 0)⟩) Q) :
    St m c 32 8 32 8 3 true 1 0 0 true 1 0 0 4 o0 o1 ⊢ WP c (on (k0_part30 (F := F)) v605 v731 v766 v769 >>= k) Q := by
  unfold on; rw [k0_part30_eq_skeleton]; unfold k0_part30_skel
  simp only [semSignalWord, semWaitWord, Prog.lift, Prog.bind_op, Prog.bind_ret, Prog.pure_eq_ret, wp_deviceId]
  refine st_loadV m 0 2 0 (H := ?_)
  refine st_loadK m 0 3 0 (H := ?_)
  refine st_loadV m 0 3 0 (H := ?_)
  refine st_loadK m 0 4 0 (H := ?_)
  exact H

theorem part31 {v605 : FVec F S512x512 .bf16} {v731 : FVec F S512x512 .bf16} {v800 : FVec F S512x64 .bf16} {v803 : FVec F S512x64 .bf16} {Q : α → sProp 𝕄} {k : (Σ' (v816 : FVec F S512x64 .f32) (v833 : FVec F S512x64 .f32) (v834 : FVec F S512x64 .bf16), FVec F S512x64 .bf16) → Prog (TpuEff nD τ sig (Elt F) Λ₀ .tc) α}
    (H : St m c 32 8 32 8 3 true 1 0 0 true 1 0 0 4 o0 o1 ⊢ WP c (k ⟨k0_pay22 v605 v800 v803 (plane m true c 0 4 0), k0_pay23 v605 v731 (plane m false c 0 5 0) (plane m true c 0 5 0), k0_pay24 v731, k0_pay25 (plane m false c 0 6 0)⟩) Q) :
    St m c 32 8 32 8 3 true 1 0 0 true 1 0 0 4 o0 o1 ⊢ WP c (on (k0_part31 (F := F)) v605 v731 v800 v803 >>= k) Q := by
  unfold on; rw [k0_part31_eq_skeleton]; unfold k0_part31_skel
  simp only [semSignalWord, semWaitWord, Prog.lift, Prog.bind_op, Prog.bind_ret, Prog.pure_eq_ret, wp_deviceId]
  refine st_loadV m 0 4 0 (H := ?_)
  refine st_loadK m 0 5 0 (H := ?_)
  refine st_loadV m 0 5 0 (H := ?_)
  refine st_loadK m 0 6 0 (H := ?_)
  exact H

theorem part32 {v605 : FVec F S512x512 .bf16} {v725 : FVec F S512x768 .bf16} {v731 : FVec F S512x512 .bf16} {v748 : FVec F S512x64 .f32} {v765 : FVec F S512x64 .f32} {v782 : FVec F S512x64 .f32} {v799 : FVec F S512x64 .f32} {v816 : FVec F S512x64 .f32} {v833 : FVec F S512x64 .f32} {v834 : FVec F S512x64 .bf16} {v837 : FVec F S512x64 .bf16} {Q : α → sProp 𝕄} {k : (FVec F S1x512x768 .f32) → Prog (TpuEff nD τ sig (Elt F) Λ₀ .tc) α}
    (H : St m c 32 8 32 8 3 true 1 0 0 true 1 0 0 4 o0 o1 ⊢ WP c (k (k0_pay26 v605 v725 v731 v748 v765 v782 v799 v816 v833 v834 v837 (plane m true c 0 6 0) (plane m false c 0 7 0) (plane m true c 0 7 0))) Q) :
    St m c 32 8 32 8 3 true 1 0 0 true 1 0 0 4 o0 o1 ⊢ WP c (on (k0_part32 (F := F)) v605 v725 v731 v748 v765 v782 v799 v816 v833 v834 v837 >>= k) Q := by
  unfold on; rw [k0_part32_eq_skeleton]; unfold k0_part32_skel
  simp only [semSignalWord, semWaitWord, Prog.lift, Prog.bind_op, Prog.bind_ret, Prog.pure_eq_ret, wp_deviceId]
  refine st_loadV m 0 6 0 (H := ?_)
  refine st_loadK m 0 7 0 (H := ?_)
  refine st_loadV m 0 7 0 (H := ?_)
  refine st_loadOut0 m ?_
  exact H

theorem part33 {v551 : FVec F S2x512x768 .bf16} {v605 : FVec F S512x512 .bf16} {v723 : FVec F S768x512 .bf16} {v873 : FVec F S1x512x768 .f32} (n0 : Vec F S1x512x768 .f32) (hw : v873 = n0) {Q : α → sProp 𝕄} {k : (Σ' (v879 : FVec F S512x512 .bf16) (v896 : FVec F S512x64 .f32) (v903 : FVec F S512x64 .bf16), FVec F S512x512 .bf16) → Prog (TpuEff nD τ sig (Elt F) Λ₀ .tc) α}
    (H : St m c 32 8 32 8 3 true 1 0 0 true 1 0 0 4 n0 o1 ⊢ WP c (k ⟨k0_pay27 v551 v723, k0_pay28 v551 v605 v723 (plane m false c 0 0 1) (plane m true c 0 0 1), k0_pay29 (plane m true c 0 1 1), k0_pay30 v551 v723 (plane m false c 0 1 1)⟩) Q) :
    St m c 32 8 32 8 3 true 1 0 0 true 1 0 0 4 o0 o1 ⊢ WP c (on (k0_part33 (F := F)) v551 v605 v723 v873 >>= k) Q := by
  unfold on; rw [k0_part33_eq_skeleton]; unfold k0_part33_skel
  simp only [semSignalWord, semWaitWord, Prog.lift, Prog.bind_op, Prog.bind_ret, Prog.pure_eq_ret, wp_deviceId]
  refine st_storeOut0 m n0 hw ?_
  refine st_loadK m 0 0 1 (H := ?_)
  refine st_loadV m 0 0 1 (H := ?_)
  refine st_loadK m 0 1 1 (H := ?_)
  refine st_loadV m 0 1 1 (H := ?_)
  exact H

theorem part34 {v605 : FVec F S512x512 .bf16} {v879 : FVec F S512x512 .bf16} {v903 : FVec F S512x64 .bf16} {v906 : FVec F S512x512 .bf16} {Q : α → sProp 𝕄} {k : (Σ' (v913 : FVec F S512x64 .f32) (v930 : FVec F S512x64 .f32) (v937 : FVec F S512x64 .bf16), FVec F S512x512 .bf16) → Prog (TpuEff nD τ sig (Elt F) Λ₀ .tc) α}
    (H : St m c 32 8 32 8 3 true 1 0 0 true 1 0 0 4 o0 o1 ⊢ WP c (k ⟨k0_pay31 v605 v903 v906, k0_pay32 v605 v879 (plane m false c 0 2 1) (plane m true c 0 2 1), k0_pay33 (plane m true c 0 3 1), k0_pay34 v879 (plane m false c 0 3 1)⟩) Q) :
    St m c 32 8 32 8 3 true 1 0 0 true 1 0 0 4 o0 o1 ⊢ WP c (on (k0_part34 (F := F)) v605 v879 v903 v906 >>= k) Q := by
  unfold on; rw [k0_part34_eq_skeleton]; unfold k0_part34_skel
  simp only [semSignalWord, semWaitWord, Prog.lift, Prog.bind_op, Prog.bind_ret, Prog.pure_eq_ret, wp_deviceId]
  refine st_loadK m 0 2 1 (H := ?_)
  refine st_loadV m 0 2 1 (H := ?_)
  refine st_loadK m 0 3 1 (H := ?_)
  refine st_loadV m 0 3 1 (H := ?_)
  exact H

theorem part35 {v605 : FVec F S512x512 .bf16} {v879 : FVec F S512x512 .bf16} {v937 : FVec F S512x64 .bf16} {v940 : FVec F S512x512 .bf16} {Q : α → sProp 𝕄} {k : (Σ' (v947 : FVec F S512x64 .f32) (v964 : FVec F S512x64 .f32) (v971 : FVec F S512x64 .bf16), FVec F S512x512 .bf16) → Prog (TpuEff nD τ sig (Elt F) Λ₀ .tc) α}
    (H : St m c 32 8 32 8 3 true 1 0 0 true 1 0 0 4 o0 o1 ⊢ WP c (k ⟨k0_pay35 v605 v937 v940, k0_pay36 v605 v879 (plane m false c 0 4 1) (plane m true c 0 4 1), k0_pay37 (plane m true c 0 5 1), k0_pay38 v879 (plane m false c 0 5 1)⟩) Q) :
    St m c 32 8 32 8 3 true 1 0 0 true 1 0 0 4 o0 o1 ⊢ WP c (on (k0_part35 (F := F)) v605 v879 v937 v940 >>= k) Q := by
  unfold on; rw [k0_part35_eq_skeleton]; unfold k0_part35_skel
  simp only [semSignalWord, semWaitWord, Prog.lift, Prog.bind_op, Prog.bind_ret, Prog.pure_eq_ret, wp_deviceId]
  refine st_loadK m 0 4 1 (H := ?_)
  refine st_loadV m 0 4 1 (H := ?_)
  refine st_loadK m 0 5 1 (H := ?_)
  refine st_loadV m 0 5 1 (H := ?_)
  exact H

theorem part36 {v605 : FVec F S512x512 .bf16} {v879 : FVec F S512x512 .bf16} {v971 : FVec F S512x64 .bf16} {v974 : FVec F S512x512 .bf16} {Q : α → sProp 𝕄} {k : (Σ' (v981 : FVec F S512x64 .f32) (v998 : FVec F S512x64 .f32) (v1005 : FVec F S512x64 .bf16), FVec F S512x512 .bf16) → Prog (TpuEff nD τ sig (Elt F) Λ₀ .tc) α}
    (H : St m c 32 8 32 8 3 true 1 0 0 true 1 0 0 4 o0 o1 ⊢ WP c (k ⟨k0_pay39 v605 v971 v974, k0_pay40 v605 v879 (plane m false c 0 6 1) (plane m true c 0 6 1), k0_pay41 (plane m true c 0 7 1), k0_pay42 v879 (plane m false c 0 7 1)⟩) Q) :
    St m c 32 8 32 8 3 true 1 0 0 true 1 0 0 4 o0 o1 ⊢ WP c (on (k0_part36 (F := F)) v605 v879 v971 v974 >>= k) Q := by
  unfold on; rw [k0_part36_eq_skeleton]; unfold k0_part36_skel
  simp only [semSignalWord, semWaitWord, Prog.lift, Prog.bind_op, Prog.bind_ret, Prog.pure_eq_ret, wp_deviceId]
  refine st_loadK m 0 6 1 (H := ?_)
  refine st_loadV m 0 6 1 (H := ?_)
  refine st_loadK m 0 7 1 (H := ?_)
  refine st_loadV m 0 7 1 (H := ?_)
  exact H

theorem part37 {v7 : BitVec 32} {v605 : FVec F S512x512 .bf16} {v725 : FVec F S512x768 .bf16} {v896 : FVec F S512x64 .f32} {v913 : FVec F S512x64 .f32} {v930 : FVec F S512x64 .f32} {v947 : FVec F S512x64 .f32} {v964 : FVec F S512x64 .f32} {v981 : FVec F S512x64 .f32} {v998 : FVec F S512x64 .f32} {v1005 : FVec F S512x64 .bf16} {v1008 : FVec F S512x512 .bf16} (n1 : Vec F S1x512x768 .f32) (hw : (k0_pay43 v605 v725 v896 v913 v930 v947 v964 v981 v998 v1005 v1008) = n1) {Q : α → sProp 𝕄} {k : (PUnit) → Prog (TpuEff nD τ sig (Elt F) Λ₀ .tc) α}
    (H : St m c 32 8 32 8 3 true 1 1 1 true 1 0 0 4 o0 n1 ⊢ WP c (k ⟨⟩) Q) :
    St m c 32 8 32 8 3 true 1 0 0 true 1 0 0 4 o0 o1 ⊢ WP c (on (k0_part37 (F := F)) v7 v605 v725 v896 v913 v930 v947 v964 v981 v998 v1005 v1008 >>= k) Q := by
  unfold on; rw [k0_part37_eq_skeleton]; unfold k0_part37_skel
  simp only [semSignalWord, semWaitWord, Prog.lift, Prog.bind_op, Prog.bind_ret, Prog.pure_eq_ret, wp_deviceId]
  refine st_loadOut1 m ?_
  refine st_storeOut1 m n1 hw ?_
  refine st_sentQ m 0 (hs := rfl) (how := sent_low 0) (H := ?_)
  refine st_recvQ m 0 (hs := rfl) (how := recv_low 0) (H := ?_)
  exact H

theorem part38 {v7 : BitVec 32} {Q : α → sProp 𝕄} {k : (PUnit) → Prog (TpuEff nD τ sig (Elt F) Λ₀ .tc) α}
    (H : St m c 32 8 32 8 3 true 2 1 1 true 1 1 1 3 o0 o1 ⊢ WP c (k ⟨⟩) Q) :
    St m c 32 8 32 8 3 true 1 1 1 true 1 0 0 4 o0 o1 ⊢ WP c (on (k0_part38 (F := F)) c v7 >>= k) Q := by
  unfold on; rw [k0_part38_eq_skeleton]; unfold k0_part38_skel
  simp only [semSignalWord, semWaitWord, Prog.lift, Prog.bind_op, Prog.bind_ret, Prog.pure_eq_ret, wp_deviceId]
  refine st_sentO m 0 (hs := rfl) (how := sent_low 0) (H := ?_)
  refine st_recvO m 0 (hs := rfl) (how := recv_low 0) (H := ?_)
  refine st_sendQ m (dev5_eq c) 1 (hs := rfl) (how := fun _ => rfl) (H := ?_)
  exact H

end Cert.Attn
-- ==== Proof.PartsC.lean ====
/-
The third stretch: ring step 1.
-/
module

public import proofs.«01_k».proof.Proof.Glue

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

theorem part39 {Q : α → sProp 𝕄} {k : (PUnit) → Prog (TpuEff nD τ sig (Elt F) Λ₀ .tc) α}
    (H : St m c 32 10 32 9 3 true 2 1 1 true 2 1 1 2 o0 o1 ⊢ WP c (k ⟨⟩) Q) :
    St m c 32 8 32 8 3 true 2 1 1 true 1 1 1 3 o0 o1 ⊢ WP c (on (k0_part39 (F := F)) c >>= k) Q := by
  unfold on; rw [k0_part39_eq_skeleton]; unfold k0_part39_skel
  simp only [semSignalWord, semWaitWord, Prog.lift, Prog.bind_op, Prog.bind_ret, Prog.pure_eq_ret, wp_deviceId]
  refine st_sendO m (dev6_eq c) 1 (hs := rfl) (how := fun _ => rfl) (H := ?_)
  refine st_waitK m (H := ?_)
  refine st_waitV m (H := ?_)
  refine st_waitK m (H := ?_)
  exact H

theorem part40 {Q : α → sProp 𝕄} {k : (PUnit) → Prog (TpuEff nD τ sig (Elt F) Λ₀ .tc) α}
    (H : St m c 32 12 32 11 3 true 2 1 1 true 2 1 1 2 o0 o1 ⊢ WP c (k ⟨⟩) Q) :
    St m c 32 10 32 9 3 true 2 1 1 true 2 1 1 2 o0 o1 ⊢ WP c (on (k0_part40 (F := F)) c >>= k) Q := by
  unfold on; rw [k0_part40_eq_skeleton]; unfold k0_part40_skel
  simp only [semSignalWord, semWaitWord, Prog.lift, Prog.bind_op, Prog.bind_ret, Prog.pure_eq_ret, wp_deviceId]
  iterate 2 (refine st_waitV m (H := ?_); refine st_waitK m (H := ?_))
  exact H

theorem part41 {Q : α → sProp 𝕄} {k : (PUnit) → Prog (TpuEff nD τ sig (Elt F) Λ₀ .tc) α}
    (H : St m c 32 14 32 13 3 true 2 1 1 true 2 1 1 2 o0 o1 ⊢ WP c (k ⟨⟩) Q) :
    St m c 32 12 32 11 3 true 2 1 1 true 2 1 1 2 o0 o1 ⊢ WP c (on (k0_part41 (F := F)) c >>= k) Q := by
  unfold on; rw [k0_part41_eq_skeleton]; unfold k0_part41_skel
  simp only [semSignalWord, semWaitWord, Prog.lift, Prog.bind_op, Prog.bind_ret, Prog.pure_eq_ret, wp_deviceId]
  iterate 2 (refine st_waitV m (H := ?_); refine st_waitK m (H := ?_))
  exact H

theorem part42 {Q : α → sProp 𝕄} {k : (PUnit) → Prog (TpuEff nD τ sig (Elt F) Λ₀ .tc) α}
    (H : St m c 32 16 32 15 3 true 2 1 1 true 2 1 1 2 o0 o1 ⊢ WP c (k ⟨⟩) Q) :
    St m c 32 14 32 13 3 true 2 1 1 true 2 1 1 2 o0 o1 ⊢ WP c (on (k0_part42 (F := F)) c >>= k) Q := by
  unfold on; rw [k0_part42_eq_skeleton]; unfold k0_part42_skel
  simp only [semSignalWord, semWaitWord, Prog.lift, Prog.bind_op, Prog.bind_ret, Prog.pure_eq_ret, wp_deviceId]
  iterate 2 (refine st_waitV m (H := ?_); refine st_waitK m (H := ?_))
  exact H

theorem part43 {v551 : FVec F S2x512x768 .bf16} {v605 : FVec F S512x512 .bf16} {Q : α → sProp 𝕄} {k : (Σ' (v1167 : FVec F S768x512 .bf16) (v1169 : FVec F S512x768 .bf16) (v1175 : FVec F S512x512 .bf16), FVec F S512x64 .f32) → Prog (TpuEff nD τ sig (Elt F) Λ₀ .tc) α}
    (H : St m c 32 16 32 16 3 true 2 1 1 true 2 1 1 2 o0 o1 ⊢ WP c (k ⟨k0_pay44 (QS m (back c 1)), k0_pay45 (OS m (back c 1)), k0_pay46 v551 (QS m (back c 1)), k0_pay47 v551 v605 (QS m (back c 1)) (plane m false c 1 0 0) (plane m true c 1 0 0)⟩) Q) :
    St m c 32 16 32 15 3 true 2 1 1 true 2 1 1 2 o0 o1 ⊢ WP c (on (k0_part43 (F := F)) c v551 v605 >>= k) Q := by
  unfold on; rw [k0_part43_eq_skeleton]; unfold k0_part43_skel
  simp only [semSignalWord, semWaitWord, Prog.lift, Prog.bind_op, Prog.bind_ret, Prog.pure_eq_ret, wp_deviceId]
  refine st_waitV m (H := ?_)
  refine st_loadQ m 1 (H := ?_)
  refine st_loadO m 1 (H := ?_)
  refine st_loadK m 1 0 0 (H := ?_)
  refine st_loadV m 1 0 0 (H := ?_)
  exact H

theorem part44 {v605 : FVec F S512x512 .bf16} {v1175 : FVec F S512x512 .bf16} {Q : α → sProp 𝕄} {k : (Σ' (v1209 : FVec F S512x64 .f32), FVec F S512x64 .f32) → Prog (TpuEff nD τ sig (Elt F) Λ₀ .tc) α}
    (H : St m c 32 16 32 16 3 true 2 1 1 true 2 1 1 2 o0 o1 ⊢ WP c (k ⟨k0_pay48 v605 v1175 (plane m false c 1 1 0) (plane m true c 1 1 0), k0_pay49 v605 v1175 (plane m false c 1 2 0) (plane m true c 1 2 0)⟩) Q) :
    St m c 32 16 32 16 3 true 2 1 1 true 2 1 1 2 o0 o1 ⊢ WP c (on (k0_part44 (F := F)) v605 v1175 >>= k) Q := by
  unfold on; rw [k0_part44_eq_skeleton]; unfold k0_part44_skel
  simp only [semSignalWord, semWaitWord, Prog.lift, Prog.bind_op, Prog.bind_ret, Prog.pure_eq_ret, wp_deviceId]
  refine st_loadK m 1 1 0 (H := ?_)
  refine st_loadV m 1 1 0 (H := ?_)
  refine st_loadK m 1 2 0 (H := ?_)
  refine st_loadV m 1 2 0 (H := ?_)
  exact H

theorem part45 {v605 : FVec F S512x512 .bf16} {v1175 : FVec F S512x512 .bf16} {Q : α → sProp 𝕄} {k : (Σ' (v1243 : FVec F S512x64 .f32), FVec F S512x64 .f32) → Prog (TpuEff nD τ sig (Elt F) Λ₀ .tc) α}
    (H : St m c 32 16 32 16 3 true 2 1 1 true 2 1 1 2 o0 o1 ⊢ WP c (k ⟨k0_pay50 v605 v1175 (plane m false c 1 3 0) (plane m true c 1 3 0), k0_pay51 v605 v1175 (plane m false c 1 4 0) (plane m true c 1 4 0)⟩) Q) :
    St m c 32 16 32 16 3 true 2 1 1 true 2 1 1 2 o0 o1 ⊢ WP c (on (k0_part45 (F := F)) v605 v1175 >>= k) Q := by
  unfold on; rw [k0_part45_eq_skeleton]; unfold k0_part45_skel
  simp only [semSignalWord, semWaitWord, Prog.lift, Prog.bind_op, Prog.bind_ret, Prog.pure_eq_ret, wp_deviceId]
  refine st_loadK m 1 3 0 (H := ?_)
  refine st_loadV m 1 3 0 (H := ?_)
  refine st_loadK m 1 4 0 (H := ?_)
  refine st_loadV m 1 4 0 (H := ?_)
  exact H

theorem part46 {v605 : FVec F S512x512 .bf16} {v1175 : FVec F S512x512 .bf16} {Q : α → sProp 𝕄} {k : (Σ' (v1277 : FVec F S512x64 .f32), FVec F S512x64 .f32) → Prog (TpuEff nD τ sig (Elt F) Λ₀ .tc) α}
    (H : St m c 32 16 32 16 3 true 2 1 1 true 2 1 1 2 o0 o1 ⊢ WP c (k ⟨k0_pay52 v605 v1175 (plane m false c 1 5 0) (plane m true c 1 5 0), k0_pay53 v605 v1175 (plane m false c 1 6 0) (plane m true c 1 6 0)⟩) Q) :
    St m c 32 16 32 16 3 true 2 1 1 true 2 1 1 2 o0 o1 ⊢ WP c (on (k0_part46 (F := F)) v605 v1175 >>= k) Q := by
  unfold on; rw [k0_part46_eq_skeleton]; unfold k0_part46_skel
  simp only [semSignalWord, semWaitWord, Prog.lift, Prog.bind_op, Prog.bind_ret, Prog.pure_eq_ret, wp_deviceId]
  refine st_loadK m 1 5 0 (H := ?_)
  refine st_loadV m 1 5 0 (H := ?_)
  refine st_loadK m 1 6 0 (H := ?_)
  refine st_loadV m 1 6 0 (H := ?_)
  exact H

theorem part47 {v551 : FVec F S2x512x768 .bf16} {v605 : FVec F S512x512 .bf16} {v1167 : FVec F S768x512 .bf16} {v1169 : FVec F S512x768 .bf16} {v1175 : FVec F S512x512 .bf16} {v1192 : FVec F S512x64 .f32} {v1209 : FVec F S512x64 .f32} {v1226 : FVec F S512x64 .f32} {v1243 : FVec F S512x64 .f32} {v1260 : FVec F S512x64 .f32} {v1277 : FVec F S512x64 .f32} {v1294 : FVec F S512x64 .f32} (n0 : Vec F S1x512x768 .f32) (hw : (k0_pay54 v605 v1169 v1175 v1192 v1209 v1226 v1243 v1260 v1277 v1294 (plane m false c 1 7 0) (plane m true c 1 7 0) (o0)) = n0) {Q : α → sProp 𝕄} {k : (Σ' (v1326 : FVec F S512x512 .bf16), FVec F S512x64 .bf16) → Prog (TpuEff nD τ sig (Elt F) Λ₀ .tc) α}
    (H : St m c 32 16 32 16 3 true 2 1 1 true 2 1 1 2 n0 o1 ⊢ WP c (k ⟨k0_pay55 v551 v1167, k0_pay56 v551 v1167⟩) Q) :
    St m c 32 16 32 16 3 true 2 1 1 true 2 1 1 2 o0 o1 ⊢ WP c (on (k0_part47 (F := F)) v551 v605 v1167 v1169 v1175 v1192 v1209 v1226 v1243 v1260 v1277 v1294 >>= k) Q := by
  unfold on; rw [k0_part47_eq_skeleton]; unfold k0_part47_skel
  simp only [semSignalWord, semWaitWord, Prog.lift, Prog.bind_op, Prog.bind_ret, Prog.pure_eq_ret, wp_deviceId]
  refine st_loadK m 1 7 0 (H := ?_)
  refine st_loadV m 1 7 0 (H := ?_)
  iterate 2 refine st_loadOut0 m ?_
  refine st_storeOut0 m n0 hw ?_
  exact H

theorem part48 {v605 : FVec F S512x512 .bf16} {v1326 : FVec F S512x512 .bf16} {v1327 : FVec F S512x64 .bf16} {Q : α → sProp 𝕄} {k : (Σ' (v1343 : FVec F S512x64 .f32) (v1360 : FVec F S512x64 .f32), FVec F S512x64 .bf16) → Prog (TpuEff nD τ sig (Elt F) Λ₀ .tc) α}
    (H : St m c 32 16 32 16 3 true 2 1 1 true 2 1 1 2 o0 o1 ⊢ WP c (k ⟨k0_pay57 v605 v1327 (plane m false c 1 0 1) (plane m true c 1 0 1), k0_pay58 v605 v1326 (plane m false c 1 1 1) (plane m true c 1 1 1), k0_pay59 v1326⟩) Q) :
    St m c 32 16 32 16 3 true 2 1 1 true 2 1 1 2 o0 o1 ⊢ WP c (on (k0_part48 (F := F)) v605 v1326 v1327 >>= k) Q := by
  unfold on; rw [k0_part48_eq_skeleton]; unfold k0_part48_skel
  simp only [semSignalWord, semWaitWord, Prog.lift, Prog.bind_op, Prog.bind_ret, Prog.pure_eq_ret, wp_deviceId]
  refine st_loadK m 1 0 1 (H := ?_)
  refine st_loadV m 1 0 1 (H := ?_)
  refine st_loadK m 1 1 1 (H := ?_)
  refine st_loadV m 1 1 1 (H := ?_)
  exact H

theorem part49 {v605 : FVec F S512x512 .bf16} {v1326 : FVec F S512x512 .bf16} {v1361 : FVec F S512x64 .bf16} {Q : α → sProp 𝕄} {k : (Σ' (v1377 : FVec F S512x64 .f32) (v1394 : FVec F S512x64 .f32), FVec F S512x64 .bf16) → Prog (TpuEff nD τ sig (Elt F) Λ₀ .tc) α}
    (H : St m c 32 16 32 16 3 true 2 1 1 true 2 1 1 2 o0 o1 ⊢ WP c (k ⟨k0_pay60 v605 v1361 (plane m false c 1 2 1) (plane m true c 1 2 1), k0_pay61 v605 v1326 (plane m false c 1 3 1) (plane m true c 1 3 1), k0_pay62 v1326⟩) Q) :
    St m c 32 16 32 16 3 true 2 1 1 true 2 1 1 2 o0 o1 ⊢ WP c (on (k0_part49 (F := F)) v605 v1326 v1361 >>= k) Q := by
  unfold on; rw [k0_part49_eq_skeleton]; unfold k0_part49_skel
  simp only [semSignalWord, semWaitWord, Prog.lift, Prog.bind_op, Prog.bind_ret, Prog.pure_eq_ret, wp_deviceId]
  refine st_loadK m 1 2 1 (H := ?_)
  refine st_loadV m 1 2 1 (H := ?_)
  refine st_loadK m 1 3 1 (H := ?_)
  refine st_loadV m 1 3 1 (H := ?_)
  exact H

theorem part50 {v605 : FVec F S512x512 .bf16} {v1326 : FVec F S512x512 .bf16} {v1395 : FVec F S512x64 .bf16} {Q : α → sProp 𝕄} {k : (Σ' (v1411 : FVec F S512x64 .f32) (v1428 : FVec F S512x64 .f32), FVec F S512x64 .bf16) → Prog (TpuEff nD τ sig (Elt F) Λ₀ .tc) α}
    (H : St m c 32 16 32 16 3 true 2 1 1 true 2 1 1 2 o0 o1 ⊢ WP c (k ⟨k0_pay63 v605 v1395 (plane m false c 1 4 1) (plane m true c 1 4 1), k0_pay64 v605 v1326 (plane m false c 1 5 1) (plane m true c 1 5 1), k0_pay65 v1326⟩) Q) :
    St m c 32 16 32 16 3 true 2 1 1 true 2 1 1 2 o0 o1 ⊢ WP c (on (k0_part50 (F := F)) v605 v1326 v1395 >>= k) Q := by
  unfold on; rw [k0_part50_eq_skeleton]; unfold k0_part50_skel
  simp only [semSignalWord, semWaitWord, Prog.lift, Prog.bind_op, Prog.bind_ret, Prog.pure_eq_ret, wp_deviceId]
  refine st_loadK m 1 4 1 (H := ?_)
  refine st_loadV m 1 4 1 (H := ?_)
  refine st_loadK m 1 5 1 (H := ?_)
  refine st_loadV m 1 5 1 (H := ?_)
  exact H

theorem part51 {v605 : FVec F S512x512 .bf16} {v1169 : FVec F S512x768 .bf16} {v1326 : FVec F S512x512 .bf16} {v1343 : FVec F S512x64 .f32} {v1360 : FVec F S512x64 .f32} {v1377 : FVec F S512x64 .f32} {v1394 : FVec F S512x64 .f32} {v1411 : FVec F S512x64 .f32} {v1428 : FVec F S512x64 .f32} {v1429 : FVec F S512x64 .bf16} {Q : α → sProp 𝕄} {k : (FVec F S512x768 .f32) → Prog (TpuEff nD τ sig (Elt F) Λ₀ .tc) α}
    (H : St m c 32 16 32 16 3 true 2 1 1 true 2 1 1 2 o0 o1 ⊢ WP c (k (k0_pay66 v605 v1169 v1326 v1343 v1360 v1377 v1394 v1411 v1428 v1429 (plane m false c 1 6 1) (plane m true c 1 6 1) (plane m false c 1 7 1) (plane m true c 1 7 1))) Q) :
    St m c 32 16 32 16 3 true 2 1 1 true 2 1 1 2 o0 o1 ⊢ WP c (on (k0_part51 (F := F)) v605 v1169 v1326 v1343 v1360 v1377 v1394 v1411 v1428 v1429 >>= k) Q := by
  unfold on; rw [k0_part51_eq_skeleton]; unfold k0_part51_skel
  simp only [semSignalWord, semWaitWord, Prog.lift, Prog.bind_op, Prog.bind_ret, Prog.pure_eq_ret, wp_deviceId]
  refine st_loadK m 1 6 1 (H := ?_)
  refine st_loadV m 1 6 1 (H := ?_)
  refine st_loadK m 1 7 1 (H := ?_)
  refine st_loadV m 1 7 1 (H := ?_)
  exact H

theorem part52 {v7 : BitVec 32} {v1465 : FVec F S512x768 .f32} (n1 : Vec F S1x512x768 .f32) (hw : (k0_pay67 v1465 (o1)) = n1) {Q : α → sProp 𝕄} {k : (PUnit) → Prog (TpuEff nD τ sig (Elt F) Λ₀ .tc) α}
    (H : St m c 32 16 32 16 3 true 2 2 2 true 2 1 1 2 o0 n1 ⊢ WP c (k ⟨⟩) Q) :
    St m c 32 16 32 16 3 true 2 1 1 true 2 1 1 2 o0 o1 ⊢ WP c (on (k0_part52 (F := F)) v7 v1465 >>= k) Q := by
  unfold on; rw [k0_part52_eq_skeleton]; unfold k0_part52_skel
  simp only [semSignalWord, semWaitWord, Prog.lift, Prog.bind_op, Prog.bind_ret, Prog.pure_eq_ret, wp_deviceId]
  iterate 2 refine st_loadOut1 m ?_
  refine st_storeOut1 m n1 hw ?_
  refine st_sentQ m 1 (hs := rfl) (how := sent_low 1) (H := ?_)
  refine st_recvQ m 1 (hs := rfl) (how := recv_low 1) (H := ?_)
  exact H

theorem part53 {v7 : BitVec 32} {Q : α → sProp 𝕄} {k : (PUnit) → Prog (TpuEff nD τ sig (Elt F) Λ₀ .tc) α}
    (H : St m c 32 16 32 16 3 true 3 2 2 true 2 2 2 1 o0 o1 ⊢ WP c (k ⟨⟩) Q) :
    St m c 32 16 32 16 3 true 2 2 2 true 2 1 1 2 o0 o1 ⊢ WP c (on (k0_part53 (F := F)) c v7 >>= k) Q := by
  unfold on; rw [k0_part53_eq_skeleton]; unfold k0_part53_skel
  simp only [semSignalWord, semWaitWord, Prog.lift, Prog.bind_op, Prog.bind_ret, Prog.pure_eq_ret, wp_deviceId]
  refine st_sentO m 1 (hs := rfl) (how := sent_low 1) (H := ?_)
  refine st_recvO m 1 (hs := rfl) (how := recv_low 1) (H := ?_)
  refine st_sendQ m (dev7_eq c) 2 (hs := rfl) (how := fun _ => rfl) (H := ?_)
  exact H

end Cert.Attn
-- ==== Proof.PartsD.lean ====
/-
The fourth stretch: ring step 2.
-/
module

public import proofs.«01_k».proof.Proof.Glue

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

theorem part54 {Q : α → sProp 𝕄} {k : (PUnit) → Prog (TpuEff nD τ sig (Elt F) Λ₀ .tc) α}
    (H : St m c 32 18 32 17 3 true 3 2 2 true 3 2 2 0 o0 o1 ⊢ WP c (k ⟨⟩) Q) :
    St m c 32 16 32 16 3 true 3 2 2 true 2 2 2 1 o0 o1 ⊢ WP c (on (k0_part54 (F := F)) c >>= k) Q := by
  unfold on; rw [k0_part54_eq_skeleton]; unfold k0_part54_skel
  simp only [semSignalWord, semWaitWord, Prog.lift, Prog.bind_op, Prog.bind_ret, Prog.pure_eq_ret, wp_deviceId]
  refine st_sendO m (dev8_eq c) 2 (hs := rfl) (how := fun _ => rfl) (H := ?_)
  refine st_waitK m (H := ?_)
  refine st_waitV m (H := ?_)
  refine st_waitK m (H := ?_)
  exact H

theorem part55 {Q : α → sProp 𝕄} {k : (PUnit) → Prog (TpuEff nD τ sig (Elt F) Λ₀ .tc) α}
    (H : St m c 32 20 32 19 3 true 3 2 2 true 3 2 2 0 o0 o1 ⊢ WP c (k ⟨⟩) Q) :
    St m c 32 18 32 17 3 true 3 2 2 true 3 2 2 0 o0 o1 ⊢ WP c (on (k0_part55 (F := F)) c >>= k) Q := by
  unfold on; rw [k0_part55_eq_skeleton]; unfold k0_part55_skel
  simp only [semSignalWord, semWaitWord, Prog.lift, Prog.bind_op, Prog.bind_ret, Prog.pure_eq_ret, wp_deviceId]
  iterate 2 (refine st_waitV m (H := ?_); refine st_waitK m (H := ?_))
  exact H

theorem part56 {Q : α → sProp 𝕄} {k : (PUnit) → Prog (TpuEff nD τ sig (Elt F) Λ₀ .tc) α}
    (H : St m c 32 22 32 21 3 true 3 2 2 true 3 2 2 0 o0 o1 ⊢ WP c (k ⟨⟩) Q) :
    St m c 32 20 32 19 3 true 3 2 2 true 3 2 2 0 o0 o1 ⊢ WP c (on (k0_part56 (F := F)) c >>= k) Q := by
  unfold on; rw [k0_part56_eq_skeleton]; unfold k0_part56_skel
  simp only [semSignalWord, semWaitWord, Prog.lift, Prog.bind_op, Prog.bind_ret, Prog.pure_eq_ret, wp_deviceId]
  iterate 2 (refine st_waitV m (H := ?_); refine st_waitK m (H := ?_))
  exact H

theorem part57 {Q : α → sProp 𝕄} {k : (PUnit) → Prog (TpuEff nD τ sig (Elt F) Λ₀ .tc) α}
    (H : St m c 32 24 32 23 3 true 3 2 2 true 3 2 2 0 o0 o1 ⊢ WP c (k ⟨⟩) Q) :
    St m c 32 22 32 21 3 true 3 2 2 true 3 2 2 0 o0 o1 ⊢ WP c (on (k0_part57 (F := F)) c >>= k) Q := by
  unfold on; rw [k0_part57_eq_skeleton]; unfold k0_part57_skel
  simp only [semSignalWord, semWaitWord, Prog.lift, Prog.bind_op, Prog.bind_ret, Prog.pure_eq_ret, wp_deviceId]
  iterate 2 (refine st_waitV m (H := ?_); refine st_waitK m (H := ?_))
  exact H

theorem part58 {v551 : FVec F S2x512x768 .bf16} {v605 : FVec F S512x512 .bf16} {Q : α → sProp 𝕄} {k : (Σ' (v1617 : FVec F S768x512 .bf16) (v1619 : FVec F S512x768 .bf16) (v1625 : FVec F S512x512 .bf16) (v1642 : FVec F S512x64 .f32) (v1643 : FVec F S512x64 .bf16), FVec F S512x64 .f32) → Prog (TpuEff nD τ sig (Elt F) Λ₀ .tc) α}
    (H : St m c 32 24 32 24 3 true 3 2 2 true 3 2 2 0 o0 o1 ⊢ WP c (k ⟨k0_pay68 (QS m (back c 2)), k0_pay69 (OS m (back c 2)), k0_pay70 v551 (QS m (back c 2)), k0_pay71 v551 v605 (QS m (back c 2)) (plane m false c 2 0 0) (plane m true c 2 0 0), k0_pay72 v551 (QS m (back c 2)), k0_pay73 (plane m false c 2 1 0)⟩) Q) :
    St m c 32 24 32 23 3 true 3 2 2 true 3 2 2 0 o0 o1 ⊢ WP c (on (k0_part58 (F := F)) c v551 v605 >>= k) Q := by
  unfold on; rw [k0_part58_eq_skeleton]; unfold k0_part58_skel
  simp only [semSignalWord, semWaitWord, Prog.lift, Prog.bind_op, Prog.bind_ret, Prog.pure_eq_ret, wp_deviceId]
  refine st_waitV m (H := ?_)
  refine st_loadQ m 2 (H := ?_)
  refine st_loadO m 2 (H := ?_)
  refine st_loadK m 2 0 0 (H := ?_)
  refine st_loadV m 2 0 0 (H := ?_)
  refine st_loadK m 2 1 0 (H := ?_)
  exact H

theorem part59 {v605 : FVec F S512x512 .bf16} {v1625 : FVec F S512x512 .bf16} {v1643 : FVec F S512x64 .bf16} {v1645 : FVec F S512x64 .f32} {Q : α → sProp 𝕄} {k : (Σ' (v1659 : FVec F S512x64 .f32) (v1676 : FVec F S512x64 .f32) (v1677 : FVec F S512x64 .bf16), FVec F S512x64 .f32) → Prog (TpuEff nD τ sig (Elt F) Λ₀ .tc) α}
    (H : St m c 32 24 32 24 3 true 3 2 2 true 3 2 2 0 o0 o1 ⊢ WP c (k ⟨k0_pay74 v605 v1643 v1645 (plane m true c 2 1 0), k0_pay75 v605 v1625 (plane m false c 2 2 0) (plane m true c 2 2 0), k0_pay76 v1625, k0_pay77 (plane m false c 2 3 0)⟩) Q) :
    St m c 32 24 32 24 3 true 3 2 2 true 3 2 2 0 o0 o1 ⊢ WP c (on (k0_part59 (F := F)) v605 v1625 v1643 v1645 >>= k) Q := by
  unfold on; rw [k0_part59_eq_skeleton]; unfold k0_part59_skel
  simp only [semSignalWord, semWaitWord, Prog.lift, Prog.bind_op, Prog.bind_ret, Prog.pure_eq_ret, wp_deviceId]
  refine st_loadV m 2 1 0 (H := ?_)
  refine st_loadK m 2 2 0 (H := ?_)
  refine st_loadV m 2 2 0 (H := ?_)
  refine st_loadK m 2 3 0 (H := ?_)
  exact H

theorem part60 {v605 : FVec F S512x512 .bf16} {v1625 : FVec F S512x512 .bf16} {v1677 : FVec F S512x64 .bf16} {v1679 : FVec F S512x64 .f32} {Q : α → sProp 𝕄} {k : (Σ' (v1693 : FVec F S512x64 .f32) (v1710 : FVec F S512x64 .f32) (v1711 : FVec F S512x64 .bf16), FVec F S512x64 .f32) → Prog (TpuEff nD τ sig (Elt F) Λ₀ .tc) α}
    (H : St m c 32 24 32 24 3 true 3 2 2 true 3 2 2 0 o0 o1 ⊢ WP c (k ⟨k0_pay78 v605 v1677 v1679 (plane m true c 2 3 0), k0_pay79 v605 v1625 (plane m false c 2 4 0) (plane m true c 2 4 0), k0_pay80 v1625, k0_pay81 (plane m false c 2 5 0)⟩) Q) :
    St m c 32 24 32 24 3 true 3 2 2 true 3 2 2 0 o0 o1 ⊢ WP c (on (k0_part60 (F := F)) v605 v1625 v1677 v1679 >>= k) Q := by
  unfold on; rw [k0_part60_eq_skeleton]; unfold k0_part60_skel
  simp only [semSignalWord, semWaitWord, Prog.lift, Prog.bind_op, Prog.bind_ret, Prog.pure_eq_ret, wp_deviceId]
  refine st_loadV m 2 3 0 (H := ?_)
  refine st_loadK m 2 4 0 (H := ?_)
  refine st_loadV m 2 4 0 (H := ?_)
  refine st_loadK m 2 5 0 (H := ?_)
  exact H

theorem part61 {v605 : FVec F S512x512 .bf16} {v1625 : FVec F S512x512 .bf16} {v1711 : FVec F S512x64 .bf16} {v1713 : FVec F S512x64 .f32} {Q : α → sProp 𝕄} {k : (Σ' (v1727 : FVec F S512x64 .f32) (v1744 : FVec F S512x64 .f32) (v1745 : FVec F S512x64 .bf16), FVec F S512x64 .f32) → Prog (TpuEff nD τ sig (Elt F) Λ₀ .tc) α}
    (H : St m c 32 24 32 24 3 true 3 2 2 true 3 2 2 0 o0 o1 ⊢ WP c (k ⟨k0_pay82 v605 v1711 v1713 (plane m true c 2 5 0), k0_pay83 v605 v1625 (plane m false c 2 6 0) (plane m true c 2 6 0), k0_pay84 v1625, k0_pay85 (plane m false c 2 7 0)⟩) Q) :
    St m c 32 24 32 24 3 true 3 2 2 true 3 2 2 0 o0 o1 ⊢ WP c (on (k0_part61 (F := F)) v605 v1625 v1711 v1713 >>= k) Q := by
  unfold on; rw [k0_part61_eq_skeleton]; unfold k0_part61_skel
  simp only [semSignalWord, semWaitWord, Prog.lift, Prog.bind_op, Prog.bind_ret, Prog.pure_eq_ret, wp_deviceId]
  refine st_loadV m 2 5 0 (H := ?_)
  refine st_loadK m 2 6 0 (H := ?_)
  refine st_loadV m 2 6 0 (H := ?_)
  refine st_loadK m 2 7 0 (H := ?_)
  exact H

theorem part62 {v551 : FVec F S2x512x768 .bf16} {v605 : FVec F S512x512 .bf16} {v1617 : FVec F S768x512 .bf16} {v1619 : FVec F S512x768 .bf16} {v1642 : FVec F S512x64 .f32} {v1659 : FVec F S512x64 .f32} {v1676 : FVec F S512x64 .f32} {v1693 : FVec F S512x64 .f32} {v1710 : FVec F S512x64 .f32} {v1727 : FVec F S512x64 .f32} {v1744 : FVec F S512x64 .f32} {v1745 : FVec F S512x64 .bf16} {v1747 : FVec F S512x64 .f32} (n0 : Vec F S1x512x768 .f32) (hw : (k0_pay86 v605 v1619 v1642 v1659 v1676 v1693 v1710 v1727 v1744 v1745 v1747 (plane m true c 2 7 0) (o0)) = n0) {Q : α → sProp 𝕄} {k : (Σ' (v1776 : FVec F S512x512 .bf16) (v1777 : FVec F S512x64 .bf16), FVec F S512x64 .bf16) → Prog (TpuEff nD τ sig (Elt F) Λ₀ .tc) α}
    (H : St m c 32 24 32 24 3 true 3 2 2 true 3 2 2 0 n0 o1 ⊢ WP c (k ⟨k0_pay87 v551 v1617, k0_pay88 v551 v1617, k0_pay89 (plane m false c 2 0 1)⟩) Q) :
    St m c 32 24 32 24 3 true 3 2 2 true 3 2 2 0 o0 o1 ⊢ WP c (on (k0_part62 (F := F)) v551 v605 v1617 v1619 v1642 v1659 v1676 v1693 v1710 v1727 v1744 v1745 v1747 >>= k) Q := by
  unfold on; rw [k0_part62_eq_skeleton]; unfold k0_part62_skel
  simp only [semSignalWord, semWaitWord, Prog.lift, Prog.bind_op, Prog.bind_ret, Prog.pure_eq_ret, wp_deviceId]
  refine st_loadV m 2 7 0 (H := ?_)
  iterate 2 refine st_loadOut0 m ?_
  refine st_storeOut0 m n0 hw ?_
  refine st_loadK m 2 0 1 (H := ?_)
  exact H

theorem part63 {v605 : FVec F S512x512 .bf16} {v1776 : FVec F S512x512 .bf16} {v1777 : FVec F S512x64 .bf16} {v1780 : FVec F S512x64 .bf16} {Q : α → sProp 𝕄} {k : (Σ' (v1793 : FVec F S512x64 .f32) (v1810 : FVec F S512x64 .f32) (v1811 : FVec F S512x64 .bf16), FVec F S512x64 .bf16) → Prog (TpuEff nD τ sig (Elt F) Λ₀ .tc) α}
    (H : St m c 32 24 32 24 3 true 3 2 2 true 3 2 2 0 o0 o1 ⊢ WP c (k ⟨k0_pay90 v605 v1777 v1780 (plane m true c 2 0 1), k0_pay91 v605 v1776 (plane m false c 2 1 1) (plane m true c 2 1 1), k0_pay92 v1776, k0_pay93 (plane m false c 2 2 1)⟩) Q) :
    St m c 32 24 32 24 3 true 3 2 2 true 3 2 2 0 o0 o1 ⊢ WP c (on (k0_part63 (F := F)) v605 v1776 v1777 v1780 >>= k) Q := by
  unfold on; rw [k0_part63_eq_skeleton]; unfold k0_part63_skel
  simp only [semSignalWord, semWaitWord, Prog.lift, Prog.bind_op, Prog.bind_ret, Prog.pure_eq_ret, wp_deviceId]
  refine st_loadV m 2 0 1 (H := ?_)
  refine st_loadK m 2 1 1 (H := ?_)
  refine st_loadV m 2 1 1 (H := ?_)
  refine st_loadK m 2 2 1 (H := ?_)
  exact H

theorem part64 {v605 : FVec F S512x512 .bf16} {v1776 : FVec F S512x512 .bf16} {v1811 : FVec F S512x64 .bf16} {v1814 : FVec F S512x64 .bf16} {Q : α → sProp 𝕄} {k : (Σ' (v1827 : FVec F S512x64 .f32) (v1844 : FVec F S512x64 .f32) (v1845 : FVec F S512x64 .bf16), FVec F S512x64 .bf16) → Prog (TpuEff nD τ sig (Elt F) Λ₀ .tc) α}
    (H : St m c 32 24 32 24 3 true 3 2 2 true 3 2 2 0 o0 o1 ⊢ WP c (k ⟨k0_pay94 v605 v1811 v1814 (plane m true c 2 2 1), k0_pay95 v605 v1776 (plane m false c 2 3 1) (plane m true c 2 3 1), k0_pay96 v1776, k0_pay97 (plane m false c 2 4 1)⟩) Q) :
    St m c 32 24 32 24 3 true 3 2 2 true 3 2 2 0 o0 o1 ⊢ WP c (on (k0_part64 (F := F)) v605 v1776 v1811 v1814 >>= k) Q := by
  unfold on; rw [k0_part64_eq_skeleton]; unfold k0_part64_skel
  simp only [semSignalWord, semWaitWord, Prog.lift, Prog.bind_op, Prog.bind_ret, Prog.pure_eq_ret, wp_deviceId]
  refine st_loadV m 2 2 1 (H := ?_)
  refine st_loadK m 2 3 1 (H := ?_)
  refine st_loadV m 2 3 1 (H := ?_)
  refine st_loadK m 2 4 1 (H := ?_)
  exact H

theorem part65 {v605 : FVec F S512x512 .bf16} {v1776 : FVec F S512x512 .bf16} {v1845 : FVec F S512x64 .bf16} {v1848 : FVec F S512x64 .bf16} {Q : α → sProp 𝕄} {k : (Σ' (v1861 : FVec F S512x64 .f32) (v1878 : FVec F S512x64 .f32) (v1879 : FVec F S512x64 .bf16), FVec F S512x64 .bf16) → Prog (TpuEff nD τ sig (Elt F) Λ₀ .tc) α}
    (H : St m c 32 24 32 24 3 true 3 2 2 true 3 2 2 0 o0 o1 ⊢ WP c (k ⟨k0_pay98 v605 v1845 v1848 (plane m true c 2 4 1), k0_pay99 v605 v1776 (plane m false c 2 5 1) (plane m true c 2 5 1), k0_pay100 v1776, k0_pay101 (plane m false c 2 6 1)⟩) Q) :
    St m c 32 24 32 24 3 true 3 2 2 true 3 2 2 0 o0 o1 ⊢ WP c (on (k0_part65 (F := F)) v605 v1776 v1845 v1848 >>= k) Q := by
  unfold on; rw [k0_part65_eq_skeleton]; unfold k0_part65_skel
  simp only [semSignalWord, semWaitWord, Prog.lift, Prog.bind_op, Prog.bind_ret, Prog.pure_eq_ret, wp_deviceId]
  refine st_loadV m 2 4 1 (H := ?_)
  refine st_loadK m 2 5 1 (H := ?_)
  refine st_loadV m 2 5 1 (H := ?_)
  refine st_loadK m 2 6 1 (H := ?_)
  exact H

theorem part66 {v605 : FVec F S512x512 .bf16} {v1619 : FVec F S512x768 .bf16} {v1776 : FVec F S512x512 .bf16} {v1793 : FVec F S512x64 .f32} {v1810 : FVec F S512x64 .f32} {v1827 : FVec F S512x64 .f32} {v1844 : FVec F S512x64 .f32} {v1861 : FVec F S512x64 .f32} {v1878 : FVec F S512x64 .f32} {v1879 : FVec F S512x64 .bf16} {v1882 : FVec F S512x64 .bf16} {Q : α → sProp 𝕄} {k : (FVec F S512x768 .f32) → Prog (TpuEff nD τ sig (Elt F) Λ₀ .tc) α}
    (H : St m c 32 24 32 24 3 true 3 2 2 true 3 2 2 0 o0 o1 ⊢ WP c (k (k0_pay102 v605 v1619 v1776 v1793 v1810 v1827 v1844 v1861 v1878 v1879 v1882 (plane m true c 2 6 1) (plane m false c 2 7 1) (plane m true c 2 7 1) (o1))) Q) :
    St m c 32 24 32 24 3 true 3 2 2 true 3 2 2 0 o0 o1 ⊢ WP c (on (k0_part66 (F := F)) v605 v1619 v1776 v1793 v1810 v1827 v1844 v1861 v1878 v1879 v1882 >>= k) Q := by
  unfold on; rw [k0_part66_eq_skeleton]; unfold k0_part66_skel
  simp only [semSignalWord, semWaitWord, Prog.lift, Prog.bind_op, Prog.bind_ret, Prog.pure_eq_ret, wp_deviceId]
  refine st_loadV m 2 6 1 (H := ?_)
  refine st_loadK m 2 7 1 (H := ?_)
  refine st_loadV m 2 7 1 (H := ?_)
  refine st_loadOut1 m ?_
  exact H

theorem part67 {v7 : BitVec 32} {v1918 : FVec F S512x768 .f32} (n1 : Vec F S1x512x768 .f32) (hw : (k0_pay103 v1918) = n1) {Q : α → sProp 𝕄} {k : (BitVec 32) → Prog (TpuEff nD τ sig (Elt F) Λ₀ .tc) α}
    (H : St m c 32 24 32 24 3 true 3 3 3 true 3 3 2 0 o0 n1 ⊢ WP c (k 1#32) Q) :
    St m c 32 24 32 24 3 true 3 2 2 true 3 2 2 0 o0 o1 ⊢ WP c (on (k0_part67 (F := F)) v7 v1918 >>= k) Q := by
  unfold on; rw [k0_part67_eq_skeleton]; unfold k0_part67_skel
  simp only [semSignalWord, semWaitWord, Prog.lift, Prog.bind_op, Prog.bind_ret, Prog.pure_eq_ret, wp_deviceId]
  refine st_loadOut1 m ?_
  refine st_storeOut1 m n1 hw ?_
  refine st_sentQ m 2 (hs := rfl) (how := sent_low 2) (H := ?_)
  refine st_recvQ m 2 (hs := rfl) (how := recv_low 2) (H := ?_)
  refine st_sentO m 2 (hs := rfl) (how := sent_low 2) (H := ?_)
  exact H

end Cert.Attn
-- ==== Proof.PartsE.lean ====
/-
The last stretch: ring step 3.
-/
module

public import proofs.«01_k».proof.Proof.Glue

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32} {α : Type}

theorem part68 {v7 : BitVec 32} {c1_i32_1893 : BitVec 32} {Q : α → sProp 𝕄} {k : (PUnit) → Prog (TpuEff nD τ sig (Elt F) Λ₀ .tc) α}
    (H : St m c 32 26 32 25 3 true 3 3 3 true 3 3 3 0 o0 o1 ⊢ WP c (k ⟨⟩) Q) :
    St m c 32 24 32 24 3 true 3 3 3 true 3 3 2 0 o0 o1 ⊢ WP c (on (k0_part68 (F := F)) c v7 c1_i32_1893 >>= k) Q := by
  unfold on; rw [k0_part68_eq_skeleton]; unfold k0_part68_skel
  simp only [semSignalWord, semWaitWord, Prog.lift, Prog.bind_op, Prog.bind_ret, Prog.pure_eq_ret, wp_deviceId]
  refine st_recvO m 2 (hs := rfl) (how := recv_low 2) (H := ?_)
  refine st_waitK m (H := ?_)
  refine st_waitV m (H := ?_)
  refine st_waitK m (H := ?_)
  exact H

theorem part69 {Q : α → sProp 𝕄} {k : (PUnit) → Prog (TpuEff nD τ sig (Elt F) Λ₀ .tc) α}
    (H : St m c 32 28 32 27 3 true 3 3 3 true 3 3 3 0 o0 o1 ⊢ WP c (k ⟨⟩) Q) :
    St m c 32 26 32 25 3 true 3 3 3 true 3 3 3 0 o0 o1 ⊢ WP c (on (k0_part69 (F := F)) c >>= k) Q := by
  unfold on; rw [k0_part69_eq_skeleton]; unfold k0_part69_skel
  simp only [semSignalWord, semWaitWord, Prog.lift, Prog.bind_op, Prog.bind_ret, Prog.pure_eq_ret, wp_deviceId]
  iterate 2 (refine st_waitV m (H := ?_); refine st_waitK m (H := ?_))
  exact H

theorem part70 {Q : α → sProp 𝕄} {k : (PUnit) → Prog (TpuEff nD τ sig (Elt F) Λ₀ .tc) α}
    (H : St m c 32 30 32 29 3 true 3 3 3 true 3 3 3 0 o0 o1 ⊢ WP c (k ⟨⟩) Q) :
    St m c 32 28 32 27 3 true 3 3 3 true 3 3 3 0 o0 o1 ⊢ WP c (on (k0_part70 (F := F)) c >>= k) Q := by
  unfold on; rw [k0_part70_eq_skeleton]; unfold k0_part70_skel
  simp only [semSignalWord, semWaitWord, Prog.lift, Prog.bind_op, Prog.bind_ret, Prog.pure_eq_ret, wp_deviceId]
  iterate 2 (refine st_waitV m (H := ?_); refine st_waitK m (H := ?_))
  exact H

theorem part71 {Q : α → sProp 𝕄} {k : (PUnit) → Prog (TpuEff nD τ sig (Elt F) Λ₀ .tc) α}
    (H : St m c 32 32 32 31 3 true 3 3 3 true 3 3 3 0 o0 o1 ⊢ WP c (k ⟨⟩) Q) :
    St m c 32 30 32 29 3 true 3 3 3 true 3 3 3 0 o0 o1 ⊢ WP c (on (k0_part71 (F := F)) c >>= k) Q := by
  unfold on; rw [k0_part71_eq_skeleton]; unfold k0_part71_skel
  simp only [semSignalWord, semWaitWord, Prog.lift, Prog.bind_op, Prog.bind_ret, Prog.pure_eq_ret, wp_deviceId]
  iterate 2 (refine st_waitV m (H := ?_); refine st_waitK m (H := ?_))
  exact H

theorem part72 {v551 : FVec F S2x512x768 .bf16} {v605 : FVec F S512x512 .bf16} {Q : α → sProp 𝕄} {k : (Σ' (v2047 : FVec F S768x512 .bf16) (v2049 : FVec F S512x768 .bf16) (v2055 : FVec F S512x512 .bf16) (v2069 : FVec F S512x1 .f32), FVec F S512x64 .f32) → Prog (TpuEff nD τ sig (Elt F) Λ₀ .tc) α}
    (H : St m c 32 32 32 32 3 true 3 3 3 true 3 3 3 0 o0 o1 ⊢ WP c (k ⟨k0_pay104 (QS m (back c 3)), k0_pay105 (OS m (back c 3)), k0_pay106 v551 (QS m (back c 3)), k0_pay108 v551 v605 (QS m (back c 3)) (plane m false c 3 0 0), k0_pay109 v551 v605 (QS m (back c 3)) (plane m false c 3 0 0) (plane m true c 3 0 0)⟩) Q) :
    St m c 32 32 32 31 3 true 3 3 3 true 3 3 3 0 o0 o1 ⊢ WP c (on (k0_part72 (F := F)) c v551 v605 >>= k) Q := by
  unfold on; rw [k0_part72_eq_skeleton]; unfold k0_part72_skel
  simp only [semSignalWord, semWaitWord, Prog.lift, Prog.bind_op, Prog.bind_ret, Prog.pure_eq_ret, wp_deviceId]
  refine st_waitV m (H := ?_)
  refine st_loadQ m 3 (H := ?_)
  refine st_loadO m 3 (H := ?_)
  refine st_loadK m 3 0 0 (H := ?_)
  refine st_loadV m 3 0 0 (H := ?_)
  exact H

theorem part73 {v605 : FVec F S512x512 .bf16} {v2055 : FVec F S512x512 .bf16} {v2069 : FVec F S512x1 .f32} {v2070 : FVec F S512x64 .f32} {Q : α → sProp 𝕄} {k : (Σ' (v2072 : FVec F S512x64 .f32) (v2089 : FVec F S512x64 .f32) (v2103 : FVec F S512x1 .f32), FVec F S512x64 .f32) → Prog (TpuEff nD τ sig (Elt F) Λ₀ .tc) α}
    (H : St m c 32 32 32 32 3 true 3 3 3 true 3 3 3 0 o0 o1 ⊢ WP c (k ⟨k0_pay110 v2069 v2070, k0_pay111 v605 v2055 (plane m false c 3 1 0) (plane m true c 3 1 0), k0_pay113 v605 v2055 (plane m false c 3 2 0), k0_pay114 v605 v2055 (plane m false c 3 2 0) (plane m true c 3 2 0)⟩) Q) :
    St m c 32 32 32 32 3 true 3 3 3 true 3 3 3 0 o0 o1 ⊢ WP c (on (k0_part73 (F := F)) v605 v2055 v2069 v2070 >>= k) Q := by
  unfold on; rw [k0_part73_eq_skeleton]; unfold k0_part73_skel
  simp only [semSignalWord, semWaitWord, Prog.lift, Prog.bind_op, Prog.bind_ret, Prog.pure_eq_ret, wp_deviceId]
  refine st_loadK m 3 1 0 (H := ?_)
  refine st_loadV m 3 1 0 (H := ?_)
  refine st_loadK m 3 2 0 (H := ?_)
  refine st_loadV m 3 2 0 (H := ?_)
  exact H

theorem part74 {v605 : FVec F S512x512 .bf16} {v2055 : FVec F S512x512 .bf16} {v2103 : FVec F S512x1 .f32} {v2104 : FVec F S512x64 .f32} {Q : α → sProp 𝕄} {k : (Σ' (v2106 : FVec F S512x64 .f32) (v2123 : FVec F S512x64 .f32) (v2137 : FVec F S512x1 .f32), FVec F S512x64 .f32) → Prog (TpuEff nD τ sig (Elt F) Λ₀ .tc) α}
    (H : St m c 32 32 32 32 3 true 3 3 3 true 3 3 3 0 o0 o1 ⊢ WP c (k ⟨k0_pay115 v2103 v2104, k0_pay116 v605 v2055 (plane m false c 3 3 0) (plane m true c 3 3 0), k0_pay118 v605 v2055 (plane m false c 3 4 0), k0_pay119 v605 v2055 (plane m false c 3 4 0) (plane m true c 3 4 0)⟩) Q) :
    St m c 32 32 32 32 3 true 3 3 3 true 3 3 3 0 o0 o1 ⊢ WP c (on (k0_part74 (F := F)) v605 v2055 v2103 v2104 >>= k) Q := by
  unfold on; rw [k0_part74_eq_skeleton]; unfold k0_part74_skel
  simp only [semSignalWord, semWaitWord, Prog.lift, Prog.bind_op, Prog.bind_ret, Prog.pure_eq_ret, wp_deviceId]
  refine st_loadK m 3 3 0 (H := ?_)
  refine st_loadV m 3 3 0 (H := ?_)
  refine st_loadK m 3 4 0 (H := ?_)
  refine st_loadV m 3 4 0 (H := ?_)
  exact H

theorem part75 {v605 : FVec F S512x512 .bf16} {v2055 : FVec F S512x512 .bf16} {v2137 : FVec F S512x1 .f32} {v2138 : FVec F S512x64 .f32} {Q : α → sProp 𝕄} {k : (Σ' (v2140 : FVec F S512x64 .f32) (v2157 : FVec F S512x64 .f32) (v2171 : FVec F S512x1 .f32), FVec F S512x64 .f32) → Prog (TpuEff nD τ sig (Elt F) Λ₀ .tc) α}
    (H : St m c 32 32 32 32 3 true 3 3 3 true 3 3 3 0 o0 o1 ⊢ WP c (k ⟨k0_pay120 v2137 v2138, k0_pay121 v605 v2055 (plane m false c 3 5 0) (plane m true c 3 5 0), k0_pay123 v605 v2055 (plane m false c 3 6 0), k0_pay124 v605 v2055 (plane m false c 3 6 0) (plane m true c 3 6 0)⟩) Q) :
    St m c 32 32 32 32 3 true 3 3 3 true 3 3 3 0 o0 o1 ⊢ WP c (on (k0_part75 (F := F)) v605 v2055 v2137 v2138 >>= k) Q := by
  unfold on; rw [k0_part75_eq_skeleton]; unfold k0_part75_skel
  simp only [semSignalWord, semWaitWord, Prog.lift, Prog.bind_op, Prog.bind_ret, Prog.pure_eq_ret, wp_deviceId]
  refine st_loadK m 3 5 0 (H := ?_)
  refine st_loadV m 3 5 0 (H := ?_)
  refine st_loadK m 3 6 0 (H := ?_)
  refine st_loadV m 3 6 0 (H := ?_)
  exact H

theorem part76 {v551 : FVec F S2x512x768 .bf16} {v605 : FVec F S512x512 .bf16} {v2047 : FVec F S768x512 .bf16} {v2049 : FVec F S512x768 .bf16} {v2055 : FVec F S512x512 .bf16} {v2072 : FVec F S512x64 .f32} {v2089 : FVec F S512x64 .f32} {v2106 : FVec F S512x64 .f32} {v2123 : FVec F S512x64 .f32} {v2140 : FVec F S512x64 .f32} {v2157 : FVec F S512x64 .f32} {v2171 : FVec F S512x1 .f32} {v2172 : FVec F S512x64 .f32} (n0 : Vec F S1x512x768 .f32) (hw : (k0_pay125 v605 v2049 v2055 v2072 v2089 v2106 v2123 v2140 v2157 v2171 v2172 (plane m false c 3 7 0) (plane m true c 3 7 0) (o0)) = n0) {Q : α → sProp 𝕄} {k : (Σ' (v2206 : FVec F S512x512 .bf16), FVec F S512x64 .bf16) → Prog (TpuEff nD τ sig (Elt F) Λ₀ .tc) α}
    (H : St m c 32 32 32 32 3 true 3 3 3 true 3 3 3 0 n0 o1 ⊢ WP c (k ⟨k0_pay126 v551 v2047, k0_pay127 v551 v2047⟩) Q) :
    St m c 32 32 32 32 3 true 3 3 3 true 3 3 3 0 o0 o1 ⊢ WP c (on (k0_part76 (F := F)) v551 v605 v2047 v2049 v2055 v2072 v2089 v2106 v2123 v2140 v2157 v2171 v2172 >>= k) Q := by
  unfold on; rw [k0_part76_eq_skeleton]; unfold k0_part76_skel
  simp only [semSignalWord, semWaitWord, Prog.lift, Prog.bind_op, Prog.bind_ret, Prog.pure_eq_ret, wp_deviceId]
  refine st_loadK m 3 7 0 (H := ?_)
  refine st_loadV m 3 7 0 (H := ?_)
  iterate 2 refine st_loadOut0 m ?_
  refine st_storeOut0 m n0 hw ?_
  exact H

theorem part77 {v605 : FVec F S512x512 .bf16} {v2206 : FVec F S512x512 .bf16} {v2207 : FVec F S512x64 .bf16} {Q : α → sProp 𝕄} {k : (Σ' (v2223 : FVec F S512x64 .f32) (v2240 : FVec F S512x64 .f32), FVec F S512x64 .bf16) → Prog (TpuEff nD τ sig (Elt F) Λ₀ .tc) α}
    (H : St m c 32 32 32 32 3 true 3 3 3 true 3 3 3 0 o0 o1 ⊢ WP c (k ⟨k0_pay128 v605 v2207 (plane m false c 3 0 1) (plane m true c 3 0 1), k0_pay129 v605 v2206 (plane m false c 3 1 1) (plane m true c 3 1 1), k0_pay130 v2206⟩) Q) :
    St m c 32 32 32 32 3 true 3 3 3 true 3 3 3 0 o0 o1 ⊢ WP c (on (k0_part77 (F := F)) v605 v2206 v2207 >>= k) Q := by
  unfold on; rw [k0_part77_eq_skeleton]; unfold k0_part77_skel
  simp only [semSignalWord, semWaitWord, Prog.lift, Prog.bind_op, Prog.bind_ret, Prog.pure_eq_ret, wp_deviceId]
  refine st_loadK m 3 0 1 (H := ?_)
  refine st_loadV m 3 0 1 (H := ?_)
  refine st_loadK m 3 1 1 (H := ?_)
  refine st_loadV m 3 1 1 (H := ?_)
  exact H

theorem part78 {v605 : FVec F S512x512 .bf16} {v2206 : FVec F S512x512 .bf16} {v2241 : FVec F S512x64 .bf16} {Q : α → sProp 𝕄} {k : (Σ' (v2257 : FVec F S512x64 .f32) (v2274 : FVec F S512x64 .f32), FVec F S512x64 .bf16) → Prog (TpuEff nD τ sig (Elt F) Λ₀ .tc) α}
    (H : St m c 32 32 32 32 3 true 3 3 3 true 3 3 3 0 o0 o1 ⊢ WP c (k ⟨k0_pay131 v605 v2241 (plane m false c 3 2 1) (plane m true c 3 2 1), k0_pay132 v605 v2206 (plane m false c 3 3 1) (plane m true c 3 3 1), k0_pay133 v2206⟩) Q) :
    St m c 32 32 32 32 3 true 3 3 3 true 3 3 3 0 o0 o1 ⊢ WP c (on (k0_part78 (F := F)) v605 v2206 v2241 >>= k) Q := by
  unfold on; rw [k0_part78_eq_skeleton]; unfold k0_part78_skel
  simp only [semSignalWord, semWaitWord, Prog.lift, Prog.bind_op, Prog.bind_ret, Prog.pure_eq_ret, wp_deviceId]
  refine st_loadK m 3 2 1 (H := ?_)
  refine st_loadV m 3 2 1 (H := ?_)
  refine st_loadK m 3 3 1 (H := ?_)
  refine st_loadV m 3 3 1 (H := ?_)
  exact H

theorem part79 {v605 : FVec F S512x512 .bf16} {v2206 : FVec F S512x512 .bf16} {v2275 : FVec F S512x64 .bf16} {Q : α → sProp 𝕄} {k : (Σ' (v2291 : FVec F S512x64 .f32) (v2308 : FVec F S512x64 .f32), FVec F S512x64 .bf16) → Prog (TpuEff nD τ sig (Elt F) Λ₀ .tc) α}
    (H : St m c 32 32 32 32 3 true 3 3 3 true 3 3 3 0 o0 o1 ⊢ WP c (k ⟨k0_pay134 v605 v2275 (plane m false c 3 4 1) (plane m true c 3 4 1), k0_pay135 v605 v2206 (plane m false c 3 5 1) (plane m true c 3 5 1), k0_pay136 v2206⟩) Q) :
    St m c 32 32 32 32 3 true 3 3 3 true 3 3 3 0 o0 o1 ⊢ WP c (on (k0_part79 (F := F)) v605 v2206 v2275 >>= k) Q := by
  unfold on; rw [k0_part79_eq_skeleton]; unfold k0_part79_skel
  simp only [semSignalWord, semWaitWord, Prog.lift, Prog.bind_op, Prog.bind_ret, Prog.pure_eq_ret, wp_deviceId]
  refine st_loadK m 3 4 1 (H := ?_)
  refine st_loadV m 3 4 1 (H := ?_)
  refine st_loadK m 3 5 1 (H := ?_)
  refine st_loadV m 3 5 1 (H := ?_)
  exact H

theorem part80 {v605 : FVec F S512x512 .bf16} {v2206 : FVec F S512x512 .bf16} {v2223 : FVec F S512x64 .f32} {v2240 : FVec F S512x64 .f32} {v2257 : FVec F S512x64 .f32} {v2274 : FVec F S512x64 .f32} {v2291 : FVec F S512x64 .f32} {v2308 : FVec F S512x64 .f32} {v2309 : FVec F S512x64 .bf16} {Q : α → sProp 𝕄} {k : (Σ' (v2344 : FVec F S512x512 .bf16), FVec F S512x768 .f32) → Prog (TpuEff nD τ sig (Elt F) Λ₀ .tc) α}
    (H : St m c 32 32 32 32 3 true 3 3 3 true 3 3 3 0 o0 o1 ⊢ WP c (k ⟨k0_pay137 v605 v2206 v2223 v2240 v2257 v2274 v2291 v2308 v2309 (plane m false c 3 6 1) (plane m true c 3 6 1) (plane m false c 3 7 1) (plane m true c 3 7 1), (constant S512x768 .f32 0x00000000#32)⟩) Q) :
    St m c 32 32 32 32 3 true 3 3 3 true 3 3 3 0 o0 o1 ⊢ WP c (on (k0_part80 (F := F)) v605 v2206 v2223 v2240 v2257 v2274 v2291 v2308 v2309 >>= k) Q := by
  unfold on; rw [k0_part80_eq_skeleton]; unfold k0_part80_skel
  simp only [semSignalWord, semWaitWord, Prog.lift, Prog.bind_op, Prog.bind_ret, Prog.pure_eq_ret, wp_deviceId]
  refine st_loadK m 3 6 1 (H := ?_)
  refine st_loadV m 3 6 1 (H := ?_)
  refine st_loadK m 3 7 1 (H := ?_)
  refine st_loadV m 3 7 1 (H := ?_)
  exact H

end Cert.Attn
-- ==== Proof.Body.lean ====
/-
The whole body, from a device's resources at its start to those at its end.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.Spec

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable {c : Dev nD} {o0 o1 : Vec F S1x512x768 .f32}

/-- A program that runs one after another, and one that returns. -/
theorem bind_wp {A : sProp 𝕄} {α β : Type} {p : Prog (TpuEff nD τ sig (Elt F) Λ₀ .tc) α} {k : α → Prog (TpuEff nD τ sig (Elt F) Λ₀ .tc) β} {Q : β → sProp 𝕄}
    (H : A ⊢ WP c p (fun a => WP c (k a) Q)) : A ⊢ WP c (p >>= k) Q := by
  unfold WP at *; rw [wp_bind]; exact H
theorem pure_wp {A : sProp 𝕄} {α : Type} {a : α} {Q : α → sProp 𝕄} (H : A ⊢ Q a) : A ⊢ WP c (pure a) Q := by
  unfold WP; rw [Prog.pure_eq_ret, wp_ret]; exact H.trans fupd_intro

theorem body_wp {Q : PUnit → sProp 𝕄}
    (H : St m c 32 32 32 32 3 true 3 3 3 true 3 3 3 0 (outRow m c 0 3) (outRow m c 1 3) ⊢ WP c (pure ⟨⟩) Q) :
    St m c 0 0 0 0 0 false 0 0 0 false 0 0 0 8 o0 o1 ⊢ WP c (on (cc0_body (F := F))) Q := by
  unfold on; rw [cc0_body_eq_skeleton]; unfold cc0_body_skel; refine bind_wp ?_; rw [k0_part81_eq_skeleton]; unfold k0_part81_skel
  refine part1 m ?_
  refine part2 m ?_
  refine part3 m ?_
  refine part4 m ?_
  refine part5 m ?_
  refine part6 m ?_
  refine part7 m ?_
  refine part8 m ?_
  refine part9 m ?_
  refine part10 m ?_
  refine part11 m ?_
  refine part12 m ?_
  refine part13 m ?_
  refine part14 m ?_
  refine part15 m ?_
  refine part16 m ?_
  refine part17 m ?_
  refine part18 m ?_
  refine part19 m ?_
  refine part20 m ?_
  refine part21 m ?_
  refine part22 m rfl ?_
  refine part23 m ?_
  refine part24 m ?_
  refine part25 m ?_
  refine part26 m ?_
  refine part27 m ?_
  refine part28 m ?_
  refine part29 m ?_
  refine part30 m ?_
  refine part31 m ?_
  refine part32 m ?_
  refine part33 m (outRow m c 0 0) rfl ?_
  refine part34 m ?_
  refine part35 m ?_
  refine part36 m ?_
  refine part37 m (outRow m c 1 0) rfl ?_
  refine part38 m ?_
  refine part39 m ?_
  refine part40 m ?_
  refine part41 m ?_
  refine part42 m ?_
  refine part43 m ?_
  refine part44 m ?_
  refine part45 m ?_
  refine part46 m ?_
  refine part47 m (outRow m c 0 1) rfl ?_
  refine part48 m ?_
  refine part49 m ?_
  refine part50 m ?_
  refine part51 m ?_
  refine part52 m (outRow m c 1 1) rfl ?_
  refine part53 m ?_
  refine part54 m ?_
  refine part55 m ?_
  refine part56 m ?_
  refine part57 m ?_
  refine part58 m ?_
  refine part59 m ?_
  refine part60 m ?_
  refine pure_wp ?_
  refine part61 m ?_
  refine part62 m (outRow m c 0 2) rfl ?_
  refine part63 m ?_
  refine part64 m ?_
  refine part65 m ?_
  refine part66 m ?_
  refine part67 m (outRow m c 1 2) rfl ?_
  refine part68 m ?_
  refine part69 m ?_
  refine part70 m ?_
  refine part71 m ?_
  refine part72 m ?_
  refine part73 m ?_
  refine part74 m ?_
  refine part75 m ?_
  refine part76 m (outRow m c 0 3) rfl ?_
  refine part77 m ?_
  refine part78 m ?_
  refine part79 m ?_
  refine part80 m ?_
  simp only [Prog.lift, Prog.bind_op, Prog.bind_ret]
  refine st_loadOut1 m ?_
  refine st_loadOut1 m ?_
  refine st_storeOut1 m (outRow m c 1 3) rfl ?_
  exact H

end Cert.Attn
-- ==== Proof.Run.lean ====
/-
The run of the whole program: every execution ends, with the output at its closed form, every argument as it was and every
semaphore at zero.
-/
module

public import proofs.«01_k».proof.Proof.Ends
public import proofs.«01_k».proof.Proof.Body
public import Idealize.ShloMosaic.Lib.Pipeline.CollectiveSegs
public import Idealize.ShloMosaic.Lib.Quiescent

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the launch's bookkeeping is told: the arrays' blocks around the body's one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => outFinal m c
  Φ t := match t with
    | ⟨0, _⟩ => Φ₀ m c
    | ⟨_ + 1, _⟩ => Φ₁ m c
  q _ := fullShare
  owed t := match t with
    | ⟨0, _⟩ => owe c 8
    | ⟨_ + 1, _⟩ => 0

theorem share_eq (c : Dev nD) (w : Fin cfg0.W) : (dats m ρ 0 c).share w = fullShare := by unfold Dat.share; split <;> rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
/-- A whole staging buffer at known contents, as the launch has it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m ρ 0 c).before (0 : Fin 4) t0_0 d = xIn m c := by
  unfold Dat.before; rw [if_pos (fetch0_0 _)]; rfl
theorem before_wq (c : Dev nD) (d) : (dats m ρ 0 c).before (1 : Fin 4) t0_0 d = wqIn m c := by
  unfold Dat.before; rw [if_pos (fetch0_1 _)]; rfl
theorem before_wo (c : Dev nD) (d) : (dats m ρ 0 c).before (2 : Fin 4) t0_0 d = woIn m c := by
  unfold Dat.before; rw [if_pos (fetch0_2 _)]; rfl

/-- What the body meets, and what it leaves. -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ
    ∗ stg c cc0_stg0_0 (xIn m c) ∗ stg c cc0_stg1_0 (wqIn m c) ∗ stg c cc0_stg2_0 (woIn m c) ∗ stg c cc0_stg3_0 (outFinal m c))

theorem debt_in (c : Dev nD) : (dats m ρ 0 c).owesAt () t0_0.castSucc ⊢ debt c 8 := by
  unfold Dat.owesAt Pipeline.owesWithin debt
  iintro ⟨%W, -, H⟩
  iexists W; iexact H
theorem debt_out (c : Dev nD) : debt c 0 ⊢ (dats m ρ 0 c).owesAt () t0_0.succ := by
  unfold Dat.owesAt Pipeline.owesWithin debt
  iintro ⟨%W, H⟩
  iexists W
  isplitr
  · ipureintro; exact fun _ _ => Or.inl trivial
  iexact H

theorem body_pre (c : Dev nD) : bodyPre m ρ c ⊢ iprop(∃ o0 o1 : Vec F S1x512x768 .f32, (kept m false c ∗ kept m true c)
    ∗ St m c 0 0 0 0 0 false 0 0 0 false 0 0 0 8 o0 o1) := by
  unfold bodyPre
  iintro ⟨HΦ, Hd, ⟨%d0, %f0, %e0, H0⟩, ⟨%d1, %f1, %e1, H1⟩, ⟨%d2, %f2, %e2, H2⟩, ⟨%d3, %f3, -, H3⟩⟩
  rw [before_x] at e0; rw [before_wq] at e1; rw [before_wo] at e2; subst e0 e1 e2
  ihave Hd := (debt_in m ρ c) $$ Hd
  iexists ((outM : Memref sig .tc .vmem S2x512x768 .f32).view.readAt (Elt F) (rectOut 0).toLoadRect f3)
  iexists ((outM : Memref sig .tc .vmem S2x512x768 .f32).view.readAt (Elt F) (rectOut 1).toLoadRect f3)
  ihave H := (open_body m c ((outM : Memref sig .tc .vmem S2x512x768 .f32).view.readAt (Elt F) (rectOut 0).toLoadRect f3)
    ((outM : Memref sig .tc .vmem S2x512x768 .f32).view.readAt (Elt F) (rectOut 1).toLoadRect f3)) $$ HΦ
  icases H with ⟨Hk, H⟩
  isplitl [Hk]; · iexact Hk
  iapply H
  isplitl [Hd]; · iexact Hd
  isplitl [H0 H1 H2]
  · unfold inputs
    isplitl [H0]; · iexact H0
    isplitl [H1] <;> iassumption
  unfold outSt
  iexists f3
  isplitr
  · ipureintro; exact ⟨rfl, rfl⟩
  iexact H3

theorem body_post (c : Dev nD) : iprop((kept m false c ∗ kept m true c) ∗ St m c 32 32 32 32 3 true 3 3 3 true 3 3 3 0 (outRow m c 0 3) (outRow m c 1 3))
    ⊢ bodyPost m ρ c := by
  refine (close_body m c).trans ?_
  unfold bodyPost inputs
  iintro ⟨HΦ, Hd, ⟨H0, H1, H2⟩, H3⟩
  ihave Hd := (debt_out m ρ c) $$ Hd
  isplitl [HΦ]; · iexact HΦ
  isplitl [Hd]; · iexact Hd
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem sound_body (c : Dev nD) : bodyPre m ρ c ⊢ WP c (on (cc0_body (F := F))) (fun _ => bodyPost m ρ c) := by
  refine (body_pre m ρ c).trans ?_
  iintro ⟨%o0, %o1, Hk, HS⟩
  ihave Hw := (body_wp m (c := c) (o0 := o0) (o1 := o1) (Q := fun _ => St m c 32 32 32 32 3 true 3 3 3 true 3 3 3 0 (outRow m c 0 3) (outRow m c 1 3))
    (pure_wp .rfl)) $$ HS
  iapply (show iprop((kept m false c ∗ kept m true c) ∗ WP c (on (cc0_body (F := F)))
      (fun _ => St m c 32 32 32 32 3 true 3 3 3 true 3 3 3 0 (outRow m c 0 3) (outRow m c 1 3)))
    ⊢ WP c (on (cc0_body (F := F))) (fun _ => bodyPost m ρ c) from (wp_frame_l _ _ _).trans (wp_mono _ _ _ fun _ => body_post m ρ c))
  isplitl [Hk] <;> iassumption

set_option maxRecDepth 4000 in
/-- The body, as the launch asks for it. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  have h1 : defs₀ (F := F) Proc.tc 0 (t0_0, cfg0.slots t0_0) = bodyAt0 t0_0 := rfl
  have h2 : bodyAt0 (F := F) t0_0 = on (cc0_body (F := F)) := by unfold bodyAt0 on; rfl
  rw [h1, h2]
  have key := sound_body m ρ c
  unfold WP at key
  generalize on (cc0_body (F := F)) = p at key ⊢
  exact key

/-! ## The launch -/

theorem start_intro (c : Dev nD) :
    iprop(Pipeline.unscopedRestP Pipeline.Prefetch.none cfg0.spec c (fun b => m ((c : Thread nD τ).loc b)) ∗ levAts L lv
        ∗ Pipeline.launchCred (fun d => owe d 8) c ∗ prngReg c (ρ c) ∗ G' m c)
      ⊢ |={Set.univ}=> iprop(start m c ∗ emp) := by
  rw [Pipeline.unscopedRestP_none, unscopedRest0_eq]
  iintro ⟨Hs, Hlev, Hcr, -, HG⟩
  ihave Hc := (launch_creds (F := F) c) $$ Hcr
  imodintro
  unfold start sources
  isplitl
  · isplitl [HG]; · iexact HG
    isplitl [Hlev]; · iexact Hlev
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

/-- What is read once the run is over: the barrier's counter, the keys and the values. -/
def leave (c : Dev nD) : sProp 𝕄 := iprop(unscopedSems0 c ∗ kept m false c ∗ kept m true c)

theorem phi1_exit (c : Dev nD) :
    (dats m ρ 0 c).Φ (Fin.last cfg0.N) ⊢ iprop(leave m c ∗ Pipeline.ownSems0 osem c ∗ Pipeline.scopedRest cfg0.spec c) := by
  rw [show (dats m ρ 0 c).Φ (Fin.last cfg0.N) = Φ₁ m c from rfl, scopedRest0_eq]
  unfold Φ₁ scratch leave ksems
  rw [bigSep_ck]
  iintro ⟨Hk, ⟨HB, Hx⟩, Hp, Hr⟩
  ihave Hs := (Entails.of_eq (sems0_eq (F := F) c).symm) $$ [HB Hx Hp]
  · isplitl [HB]; · iexact HB
    isplitl [Hx] <;> iassumption
  icases Hs with ⟨Hu, Ho⟩
  isplitl [Hu Hk]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The keys and values are what they were. -/
theorem kept_read (b : Bool) (c : Dev nD) (s' : Phys nD τ sig (Elt F)) :
    iprop(kept m b c ∗ SI s') ⊢ iprop(⌜s'.mem.mem ((c : Thread nD τ).loc (srcB b)) = m ((c : Thread nD τ).loc (srcB b))⌝ ∗ SI s' : sProp 𝕄) := by
  unfold kept
  iintro ⟨Hk, HSI⟩
  ihave Hr := (pointsTo_read_all (Finset.univ : Finset Unit) (fun _ => (c : Thread nD τ).loc (srcB b)) (fun _ => m ((c : Thread nD τ).loc (srcB b))) s'
    (Transfers.shareDrop fullShare 32)) $$ [Hk HSI]
  · isplitl [Hk]
    · iapply (Entails.of_eq (bigSep_univ_of_subsingleton ()).symm); iexact Hk
    · iexact HSI
  icases Hr with ⟨%h, HSI⟩
  isplitr; · (ipureintro; exact h () (Finset.mem_univ _))
  iexact HSI

def finalA (c : Dev nD) (w : Fin cfg0.W) : Buf (Elt F) ((cfg0.win w).arr.view.loc (c : Thread nD τ)) := (dats m ρ 0 c).arrAt w cfg0.N

/-- What a final state satisfies. -/
def Final : PUnit × MemSt nD τ sig (Elt F) → Prop := fun r =>
  (∀ c : Dev nD, (∀ w : Fin cfg0.W, r.2.mem ((cfg0.win w).arr.view.loc (c : Thread nD τ)) = finalA m ρ c w)
    ∧ ∀ b : Bool, r.2.mem ((c : Thread nD τ).loc (srcB b)) = m ((c : Thread nD τ).loc (srcB b))) ∧ r.2.sem = fun _ => 0

set_option maxRecDepth 8000 in
/-- On the four devices, for any float values and from any memory with zero counters, every weakly fair execution ends, and ends so. -/
theorem run_main : θ_run defs (onTc (τ := τ) (main (F := F))) (s₀ m ρ) (Final m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun d => owe d 8) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_split _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leave m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b : Bool, s.mem ((c : Thread nD τ).loc (srcB b)) = m ((c : Thread nD τ).loc (srcB b)))
    (hY := fun c s' => by
      unfold leave
      iintro ⟨⟨Hu, Hk, Hv⟩, -, HSI⟩
      ihave Hr := (kept_read m false c s') $$ [Hk HSI]
      · isplitl [Hk] <;> iassumption
      icases Hr with ⟨%hk, HSI⟩
      ihave Hr := (kept_read m true c s') $$ [Hv HSI]
      · isplitl [Hv] <;> iassumption
      icases Hr with ⟨%hv, HSI⟩
      imod (Pipeline.unscopedSems0_read (X := unscopedSems0 c) (c := c) fupd_intro s') $$ [Hu HSI] with ⟨%hs, HSI⟩
      · isplitl [Hu] <;> iassumption
      imodintro
      isplitr
      · ipureintro
        exact ⟨hs, fun b => by cases b; exacts [hk, hv]⟩
      iexact HSI)
    (hQ := fun _ h hs => ⟨fun c => ⟨fun w => (h c).1 w, (h c).2.2.2⟩, sem_eq_zero hs fun c => (h c).2.2.1⟩)

end Cert.Attn
-- ==== Proof.Frames.lean ====
/-
What the run says of the arrays by name: the output is the closed form, and the five arguments are unchanged.
-/
module

public import proofs.«01_k».proof.Defs
public import proofs.«01_k».proof.Proof.Run
public import proofs.«01_k».proof.Proof.Gen.Kernel
public import proofs.«01_k».proof.Proof.Gen.Pre_finite_KernelIdeal
public import proofs.«01_k».proof.Proof.Gen.Pre_finite_ReferenceIdeal
public import proofs.«01_k».proof.Proof.Gen.ReferenceIdeal.Run

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The five arguments on one device are what they were. -/
abbrev Unchanged (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem final_unchanged {r} (h : Final m ρ r) (c : Dev nD) : Unchanged m c r.2 :=
  ⟨((h.1 c).1 (0 : Fin 4)).trans ((dats (F := F) m ρ 0 c).arrAt_in (0 : Fin 4) rfl _),
   ((h.1 c).1 (1 : Fin 4)).trans ((dats (F := F) m ρ 0 c).arrAt_in (1 : Fin 4) rfl _),
   (h.1 c).2 false, (h.1 c).2 true,
   ((h.1 c).1 (2 : Fin 4)).trans ((dats (F := F) m ρ 0 c).arrAt_in (2 : Fin 4) rfl _)⟩

/-- The output array's one block read back is what the body left. -/
theorem finalA_out (c : Dev nD) : (win0_3.blk (0 : Fin 1)).view.read (Elt F) (finalA m ρ c (3 : Fin 4)) = outFinal m c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from flush0_3 _, if_pos rfl]
  exact View.read_write_univ _ _

theorem final_out {r} (h : Final m ρ r) (c : Dev nD) : r.2.mem ((c.tc : Thread nD τ).loc main_v1) = outFinal m c := by
  have hz : (fun a => (win0_3.index (0 : Fin 1)) a * main_v1.ty.shape.size a) = fun _ => 0 :=
    funext fun a => by fin_cases a <;> decide
  have hr := Memref.read_access_unit_zero (Elt F) main_v1 hz (fun a => by fin_cases a <;> decide) (finalA m ρ c (3 : Fin 4))
  exact ((h.1 c).1 (3 : Fin 4)).trans (hr.symm.trans (finalA_out m ρ c))

/-! ## The frames -/

/-! The kernel and its idealization have the same text: what the body, the body table and the program are is the same. -/

theorem body_same : Cert.Kernel.cc0_body (F := F) = Cert.KernelIdeal.cc0_body (F := F) := rfl
theorem rows_same : Cert.Kernel.defs₀ (F := F) = Cert.KernelIdeal.defs₀ (F := F) :=
  congrArg Defs.onTc (funext fun | 0 => (funext fun (t, s) => by dsimp only; rfl) | ⟨_ + 1, h⟩ => absurd h (by omega))
theorem defs_same : Cert.Kernel.defs (F := F) = Cert.KernelIdeal.defs (F := F) := by
  unfold Cert.Kernel.defs Cert.KernelIdeal.defs
  rw [rows_same]
  rfl
theorem main_same : Cert.Kernel.main (F := F) = Cert.KernelIdeal.main (F := F) := rfl

theorem frame_kernel : Cert.quiescent_Kernel := fun m ρ _ => by
  have h := (θ_run (Cert.KernelIdeal.defs (F := Bits)) (onTc (τ := τ) main) (s₀ m ρ)).mono (Q' := fun r => (∀ c : Dev nD, Unchanged m c r.2) ∧ r.2.sem = fun _ => 0)
    (fun _ h => ⟨fun c => final_unchanged m ρ h c, h.2⟩) (run_main (F := Bits) m ρ)
  rw [← defs_same, ← main_same] at h
  exact h

theorem frame_ideal : Cert.quiescent_KernelIdeal := fun m ρ _ =>
  (θ_run defs _ _).mono (fun _ h => ⟨fun c => final_unchanged m ρ h c, h.2⟩) (run_main (F := Ideal) m ρ)

theorem frame_ideal_pre : Cert.quiescent_KernelIdeal_pre_finite_KernelIdeal := fun m ρ _ => frame_ideal m ρ trivial

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite_ReferenceIdeal := fun m ρ _ => frame_reference m ρ trivial

end Cert.Attn
-- ==== Proof.Softmax.lean ====
/-
The arithmetic of one attention row over the extended reals: a weighted sum divided by the sum of its weights is the
softmax average, whether or not the largest score is subtracted first.
-/
module

public import Idealize.ShloMosaic.PureOps.Ideal
public import Idealize.ShloMosaic.PureOps.Ideal.Laws
public import Mathlib.Data.Finset.Fold
public import Mathlib.Tactic.FieldSimp

@[expose] public section

noncomputable section

namespace Cert.Attn

open Idealize.ShloMosaic

/-- An extended real that is neither infinity. -/
def Real' (x : EReal) : Prop := ∃ r : ℝ, x = r

theorem Real'.coe (r : ℝ) : Real' (r : EReal) := ⟨r, rfl⟩

theorem Real'.mul {x y : EReal} : Real' x → Real' y → Real' (x * y)
  | ⟨a, ha⟩, ⟨b, hb⟩ => ⟨a * b, by rw [ha, hb, EReal.coe_mul]⟩

theorem Real'.add {x y : EReal} : Real' x → Real' y → Real' (x + y)
  | ⟨a, ha⟩, ⟨b, hb⟩ => ⟨a + b, by rw [ha, hb, EReal.coe_add]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Real'.sum {ι : Type} (s : Finset ι) {f : ι → EReal} (h : ∀ i, Real' (f i)) : Real' (∑ i ∈ s, f i) := by
  choose g hg using h
  exact ⟨∑ i ∈ s, g i, by rw [coe_sum]; exact Finset.sum_congr rfl fun i _ => hg i⟩

/-- A real factor moves in front of a sum of extended reals if it is positive. -/
theorem sum_mul_pos {ι : Type} (s : Finset ι) (f : ι → EReal) {a : ℝ} (ha : 0 < a) :
    (∑ i ∈ s, f i) * (a : EReal) = ∑ i ∈ s, f i * (a : EReal) := by
  classical
  induction s using Finset.induction_on with
  | empty => simp
  | insert i s hi ih =>
    rw [Finset.sum_insert hi, Finset.sum_insert hi, EReal.right_distrib_of_nonneg_of_ne_top (by exact_mod_cast ha.le) (EReal.coe_ne_top a), ih]

/-- Scaling one factor of a sum of real products scales the sum. -/
theorem sum_scaled {ι : Type} (s : Finset ι) {f g : ι → EReal} (a : ℝ) (hf : ∀ i, Real' (f i)) (hg : ∀ i, Real' (g i)) :
    ∑ i ∈ s, f i * (a : EReal) * g i = (∑ i ∈ s, f i * g i) * (a : EReal) := by
  choose f' hf' using hf
  choose g' hg' using hg
  have e1 : ∀ i, f i * (a : EReal) * g i = ((f' i * a * g' i : ℝ) : EReal) := fun i => by
    rw [hf', hg', EReal.coe_mul, EReal.coe_mul]
  have e2 : ∀ i, f i * g i = ((f' i * g' i : ℝ) : EReal) := fun i => by rw [hf', hg', EReal.coe_mul]
  simp only [e1, e2]
  rw [← coe_sum, ← coe_sum, ← EReal.coe_mul]
  congr 1
  rw [Finset.sum_mul]
  exact Finset.sum_congr rfl fun i _ => by ring

/-- The largest of finitely many scores, some of them real and the others minus infinity, is real. -/
theorem max_real {n : ℕ} (p : Fin n → Prop) [DecidablePred p] (t : Fin n → ℝ) (j₀ : Fin n) (h₀ : p j₀) :
    Real' (Finset.univ.fold max ⊥ fun j => if p j then (t j : EReal) else ⊥) := by
  have hne : (Finset.univ.fold max (⊥ : EReal) fun j => if p j then (t j : EReal) else ⊥) ≠ ⊤ := by
    refine ne_of_lt ((Finset.fold_max_lt _).mpr ⟨bot_lt_top, fun j _ => ?_⟩)
    split_ifs
    · exact EReal.coe_lt_top _
    · exact bot_lt_top
  have hle : (t j₀ : EReal) ≤ Finset.univ.fold max (⊥ : EReal) fun j => if p j then (t j : EReal) else ⊥ :=
    (Finset.le_fold_max _).mpr (.inr ⟨j₀, Finset.mem_univ _, by rw [if_pos h₀]⟩)
  have hbot : (Finset.univ.fold max (⊥ : EReal) fun j => if p j then (t j : EReal) else ⊥) ≠ ⊥ :=
    ne_of_gt (lt_of_lt_of_le (EReal.bot_lt_coe _) hle)
  exact ⟨_, (EReal.coe_toReal hne hbot).symm⟩

/-- One attention row: masked exponentials summed against the values and divided by their sum, against the softmax of the
masked scores (the largest subtracted first) summed against the values. The values may be any extended reals. -/
theorem softmax_row {n : ℕ} (p : Fin n → Prop) [DecidablePred p] (t v : Fin n → EReal) (ht : ∀ j, Real' (t j)) (j₀ : Fin n) (h₀ : p j₀) :
    Ideal.div (∑ j, Ideal.exp (t j) * (if p j then 1 else 0) * v j) (∑ j, Ideal.exp (t j) * (if p j then 1 else 0))
      = ∑ j, v j * Ideal.div
          (Ideal.exp ((if p j then t j else ⊥) - Finset.univ.fold max ⊥ fun j => if p j then t j else ⊥))
          (∑ j, Ideal.exp ((if p j then t j else ⊥) - Finset.univ.fold max ⊥ fun j => if p j then t j else ⊥)) := by
  choose t' ht' using ht
  obtain rfl : t = fun j => (t' j : EReal) := funext ht'
  obtain ⟨M, hM⟩ := max_real p t' j₀ h₀
  beta_reduce
  rw [hM]
  -- the weights, and the softmax's numerators, as reals
  have hw : ∀ j, Ideal.exp (t' j : EReal) * (if p j then 1 else 0) = ((if p j then Real.exp (t' j) else 0 : ℝ) : EReal) := fun j => by
    change (Real.exp (t' j) : EReal) * _ = _
    split_ifs <;> simp
  have hu : ∀ j, Ideal.exp ((if p j then (t' j : EReal) else ⊥) - (M : EReal)) = (((if p j then Real.exp (t' j) else 0) * Real.exp (-M) : ℝ) : EReal) := fun j => by
    split_ifs
    · rw [← EReal.coe_sub, ← Real.exp_add, ← sub_eq_add_neg]; rfl
    · rw [zero_mul, EReal.bot_sub]; rfl
  simp only [hw, hu]
  rw [← coe_sum, ← coe_sum, ← Finset.sum_mul]
  set w : Fin n → ℝ := fun j => if p j then Real.exp (t' j) else 0 with hwdef
  have hw0 : ∀ j, 0 ≤ w j := fun j => by
    simp only [hwdef]; split_ifs
    · exact (Real.exp_pos _).le
    · exact le_rfl
  have hW : 0 < ∑ j, w j := Finset.sum_pos' (fun j _ => hw0 j) ⟨j₀, Finset.mem_univ _, by simp only [hwdef, if_pos h₀]; exact Real.exp_pos _⟩
  change Ideal.div (∑ j, (w j : EReal) * v j) ((∑ j, w j : ℝ) : EReal) = ∑ j, v j * Ideal.div ((w j * Real.exp (-M) : ℝ) : EReal) (((∑ j, w j) * Real.exp (-M) : ℝ) : EReal)
  rw [Ideal.div_coe hW.ne', sum_mul_pos _ _ (by positivity)]
  refine Finset.sum_congr rfl fun j _ => ?_
  have hE : (0 : ℝ) < Real.exp (-M) := Real.exp_pos _
  rw [Ideal.div_coe (mul_pos hW hE).ne', ← EReal.coe_mul, mul_comm (w j : EReal) (v j), mul_assoc, ← EReal.coe_mul]
  congr 2
  field_simp

end Cert.Attn

end
-- ==== Proof.Finite.lean ====
/-
What the precondition says: every entry of the input, of the query weights and of the keys is a real number.
-/
module

public import proofs.«01_k».proof.Defs
public import proofs.«01_k».proof.Proof.Gen.Pre_finite_KernelIdeal
public import proofs.«01_k».proof.Proof.Softmax
public import Idealize.ShloMosaic.Lib.ReduceAll
public import Idealize.ShloMosaic.Lib.Pointwise

@[expose] public section

noncomputable section

namespace Cert.Attn

open Idealize.ShloMosaic

/-- The pattern of plus infinity. -/
theorem top_eq : Ideal.ofBits .f32 0x7F800000#32 = ⊤ := by
  simp [Ideal.ofBits, Ideal.ieee]

/-- An extended real is real if its absolute value is less than infinity. -/
theorem real_of_abs {x : EReal} (h : max x (-x) < ⊤) : Real' x := by
  obtain ⟨h1, h2⟩ := max_lt_iff.mp h
  refine ⟨x.toReal, (EReal.coe_toReal (ne_of_lt h1) fun e => ?_).symm⟩
  rw [e, EReal.neg_bot] at h2
  exact lt_irrefl _ h2

/-- An array whose entries all compare less than infinity in absolute value has real entries. -/
theorem real_of_all {s u : Shape} {axes : List (Fin s.rank)} (x : FVec Ideal s .f32) {dims : Fin u.rank → Fin s.rank} (hb : u.BroadcastsInDim s dims) (init : IVec u 1)
    (hr : s.ReducesTo axes u) (hu : 0 < u.numel) [Subsingleton u.Idx] (j : u.Idx)
    (e : Host.reduce IntOp.andi (cmpf .olt (Host.absf x) (broadcastInDim s dims hb (constant u .f32 0x7F800000#32))) init hr hu j = 1#1) (i : s.Idx) : Real' (x i) := by
  have h := Host.reduce_andi_all _ init hr hu j e i
  refine real_of_abs ?_
  rw [← top_eq]
  exact (Ideal.cmp_olt_eq_one _ _).mp h

/-- The precondition on one device's arguments. -/
theorem real_of_pre (m : (ℓ : Loc Cert.KernelIdeal.nD Cert.KernelIdeal.τ Cert.KernelIdeal.sig) → Buf (Elt Ideal) ℓ) (h : Cert.Pre_KernelIdeal_finite_KernelIdeal m)
    (c : Dev Cert.KernelIdeal.nD) :
    (∀ i, Real' (m ((c.tc : Thread Cert.KernelIdeal.nD Cert.KernelIdeal.τ).loc Cert.KernelIdeal.main_arg0) i))
      ∧ (∀ i, Real' (m ((c.tc : Thread Cert.KernelIdeal.nD Cert.KernelIdeal.τ).loc Cert.KernelIdeal.main_arg1) i))
      ∧ ∀ i, Real' (m ((c.tc : Thread Cert.KernelIdeal.nD Cert.KernelIdeal.τ).loc Cert.KernelIdeal.main_arg2) i) := by
  have : Subsingleton Cert.Pre_finite_KernelIdeal.S_.Idx := ⟨fun a b => funext fun i => i.elim0⟩
  have e := congrFun (h c) (fun a => a.elim0)
  dsimp only [Cert.Pre_finite_KernelIdeal.fn] at e
  obtain ⟨e1, e2⟩ := IntOp.andi_eq_one.1 e
  obtain ⟨e3, e4⟩ := IntOp.andi_eq_one.1 e1
  exact ⟨real_of_all _ _ _ _ _ _ e3, real_of_all _ _ _ _ _ _ e4, real_of_all _ _ _ _ _ _ e2⟩

end Cert.Attn

end
-- ==== Proof.RefTerms.lean ====
/-
The reference's result as a chain of named steps: the scaled scores, the mask, the softmax along the keys, the averaged
values and the output projection.
-/
module

public import proofs.«01_k».proof.Proof.Gen.ReferenceIdeal.Run

@[expose] public section

noncomputable section

namespace Cert.Attn.Ref

open Idealize.ShloMosaic
open Cert.ReferenceIdeal Cert.ReferenceIdeal.Gen

/-- The block of 64 positions that each position is in. -/
def blockOf : IVec S512 32 := select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- Which keys a query may look at. -/
def mayLook : IVec S512x512 1 := cmpi .sle (broadcastInDim S512x512 ![0, 1] bcast_S1x512_S512x512_0_1 (broadcastInDim S1x512 ![1] bcast_S512_S1x512_1 blockOf)) (broadcastInDim S512x512 ![0, 1] bcast_S512x1_S512x512_0_1 (broadcastInDim S512x1 ![0] bcast_S512_S512x1_0 blockOf))

/-- Which queries may look at any key. -/
def kept : IVec S512 1 := Host.reduce IntOp.ori mayLook (constantI S_ 1 0#1) reducesTo_S512x512_S512_d1 h_S_

section
variable {F : FTy → Type} [FloatOps F]
variable (x : FVec F S8x512x768 .f32) (wq : FVec F S768x2048 .f32) (k v : FVec F S8x512x32x64 .f32) (wo : FVec F S2048x768 .f32)

/-- The scaled scores. -/
def scores : FVec F S8x32x512x512 .f32 := mulf (Host.dotGeneral dot_S8x512x32x64_S8x512x32x64_S8x32x512x512_3_3_1_1_02_02 none (shapeCast _ (Host.dotGeneral dot_S8x512x768_S768x2048_S8x512x2048_2_0_01_1_n_n none x wq) shapeCasts_S8x512x2048_S8x512x32x64) k) (broadcastInDim S8x32x512x512 ![] bcast_S_S8x32x512x512 (constant S_ .f32 0x3E000000#32))

/-- The scores, minus infinity where a query may not look. -/
def masked : FVec F S8x32x512x512 .f32 := select (broadcastInDim S8x32x512x512 ![0, 1, 2, 3] bcast_S1x1x512x512_S8x32x512x512_0_1_2_3 (broadcastInDim S1x1x512x512 ![2, 3] bcast_S512x512_S1x1x512x512_2_3 mayLook)) (scores x wq k) (broadcastInDim S8x32x512x512 ![] bcast_S_S8x32x512x512 (id (constant S_ .f32 0xFF800000#32)))

/-- Each query's largest score. -/
def largest : FVec F S8x32x512 .f32 := Host.reduce FloatOps.maximumf (masked x wq k) (constant S_ .f32 0xFF800000#32) reducesTo_S8x32x512x512_S8x32x512_d3 h_S_

/-- The exponentials of the scores less the largest. -/
def powers : FVec F S8x32x512x512 .f32 := Host.exp (subf (masked x wq k) (broadcastInDim S8x32x512x512 ![0, 1, 2, 3] bcast_S8x32x512x1_S8x32x512x512_0_1_2_3 (broadcastInDim S8x32x512x1 ![0, 1, 2] bcast_S8x32x512_S8x32x512x1_0_1_2 (largest x wq k))))

/-- Their sum for each query. -/
def total : FVec F S8x32x512 .f32 := Host.reduceAdd (powers x wq k) (constant S_ .f32 0x00000000#32) reducesTo_S8x32x512x512_S8x32x512_d3 h_S_

/-- What each query's exponentials are divided by. -/
def divisor : FVec F S8x32x512x1 .f32 := select (broadcastInDim S8x32x512x1 ![0, 1, 2, 3] bcast_S1x1x512x1_S8x32x512x1_0_1_2_3 (broadcastInDim S1x1x512x1 ![2] bcast_S512_S1x1x512x1_2 kept)) (broadcastInDim S8x32x512x1 ![0, 1, 2] bcast_S8x32x512_S8x32x512x1_0_1_2 (total x wq k)) (broadcastInDim S8x32x512x1 ![] bcast_S_S8x32x512x1 (id (constant S_ .f32 0x3F800000#32)))

/-- The share of each key in a query's average. -/
def shares : FVec F S8x32x512x512 .f32 := select (broadcastInDim S8x32x512x512 ![0, 1, 2, 3] bcast_S1x1x512x1_S8x32x512x512_0_1_2_3 (broadcastInDim S1x1x512x1 ![2] bcast_S512_S1x1x512x1_2 kept)) (Host.divf (powers x wq k) (broadcastInDim S8x32x512x512 ![0, 1, 2, 3] bcast_S8x32x512x1_S8x32x512x512_0_1_2_3 (divisor x wq k))) (broadcastInDim S8x32x512x512 ![] bcast_S_S8x32x512x512 (id (constant S_ .f32 0x00000000#32)))

/-- The averaged values. -/
def averages : FVec F S8x32x64x512 .f32 := Host.dotGeneral dot_S8x512x32x64_S8x32x512x512_S8x32x64x512_1_3_3_2_02_01 none v (shares x wq k)

/-- The result. -/
def out : FVec F S8x512x768 .f32 := Host.dotGeneral dot_S8x512x2048_S2048x768_S8x512x768_2_0_01_1_n_n none (shapeCast _ (transpose S8x512x32x64 [0, 3, 1, 2] (averages x wq k v) transposes_S8x32x64x512_S8x512x32x64_0_3_1_2) shapeCasts_S8x512x32x64_S8x512x2048) wo
end

/-- The reference's printed result is this chain. -/
theorem out_eq {F : FTy → Type} [FloatOps F] (m : (ℓ : Loc nD τ sig) → Buf (Elt F) ℓ) (c : Dev nD) :
    Value.res_main_v33 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v33
  rfl

end Cert.Attn.Ref

end
-- ==== Proof.RefValue.lean ====
/-
The reference's steps read at an index, over the extended reals.
-/
module

public import proofs.«01_k».proof.Proof.RefTerms
public import Idealize.ShloMosaic.Lib.Pointwise
public import Idealize.ShloMosaic.Lib.WordCmp

@[expose] public section

noncomputable section

namespace Cert.Attn

open Idealize.ShloMosaic

/-- The scale of the scores, as both programs spell it, is real. -/
theorem scale_eq : Ideal.ofBits .f32 0x3E000000#32 = ((1 / 8 : ℝ) : EReal) := by
  simp [Ideal.ofBits, Ideal.ieee, -EReal.coe_mul]
  norm_num

/-- The pattern of minus infinity. -/
theorem bot_eq : Ideal.ofBits .f32 0xFF800000#32 = ⊥ := by
  simp [Ideal.ofBits, Ideal.ieee]

/-- Query `i` may look at key `j`. -/
abbrev Sees (i j : Fin 512) : Prop := j.val / 64 ≤ i.val / 64

end Cert.Attn

namespace Cert.Attn.Ref

open Idealize.ShloMosaic
open Cert.ReferenceIdeal Cert.ReferenceIdeal.Gen

theorem blockOf_at (i : Fin 512) : blockOf (ix1 i) = BitVec.ofNat 32 (i.val / 64) := by
  pointwise [blockOf, id]
  revert i
  decide +kernel

theorem mayLook_at (i j : Fin 512) : mayLook (ix2 i j) = BitVec.ofBool (decide (Sees i j)) := by
  have hi := i.isLt
  have hj := j.isLt
  pointwise [mayLook, blockOf_at]
  rw [WordCmp.cmpi_sle_ofNat (by omega) (by omega)]

theorem ori_true (w : BitVec 1) : IntOp.ori (BitVec.ofBool true) w = 1#1 := by
  revert w
  decide

/-- Every query may look at the first key. -/
theorem kept_at (i : Fin 512) : kept (ix1 i) = 1#1 := by
  pointwise [kept, mayLook_at]
  rw [← Finset.insert_erase (Finset.mem_univ (0 : Fin 512)), Finset.fold_insert (Finset.notMem_erase _ _), decide_eq_true (show Sees i 0 from Nat.zero_le _)]
  exact ori_true _

variable (x : FVec Ideal S8x512x768 .f32) (wq : FVec Ideal S768x2048 .f32) (k v : FVec Ideal S8x512x32x64 .f32) (wo : FVec Ideal S2048x768 .f32)

/-- The column of the projections that entry `d` of head `h` is. -/
abbrev col (h : Fin 32) (d : Fin 64) : Fin 2048 := ⟨h.val * 64 + d.val, by omega⟩

theorem scores_at (b : Fin 8) (h : Fin 32) (i j : Fin 512) :
    scores x wq k (ix4 b h i j) = (∑ d : Fin 64, (∑ e : Fin 768, x (ix3 b i e) * wq (ix2 e (col h d))) * k (ix4 b j h d)) * ((1 / 8 : ℝ) : EReal) := by
  pointwise [scores]
  rw [scale_eq]

theorem masked_at (b : Fin 8) (h : Fin 32) (i j : Fin 512) :
    masked x wq k (ix4 b h i j) = if Sees i j then scores x wq k (ix4 b h i j) else ⊥ := by
  pointwise [masked, mayLook_at, id, bot_eq]

theorem largest_at (b : Fin 8) (h : Fin 32) (i : Fin 512) :
    largest x wq k (ix3 b h i) = Finset.univ.fold max ⊥ fun j => if Sees i j then scores x wq k (ix4 b h i j) else ⊥ := by
  pointwise [largest, masked_at, bot_eq]

theorem powers_at (b : Fin 8) (h : Fin 32) (i j : Fin 512) :
    powers x wq k (ix4 b h i j) = Ideal.exp ((if Sees i j then scores x wq k (ix4 b h i j) else ⊥)
      - Finset.univ.fold max ⊥ fun j => if Sees i j then scores x wq k (ix4 b h i j) else ⊥) := by
  rw [← masked_at, ← largest_at]
  pointwise [powers]

theorem total_at (b : Fin 8) (h : Fin 32) (i : Fin 512) : total x wq k (ix3 b h i) = ∑ j : Fin 512, powers x wq k (ix4 b h i j) := by
  pointwise [total]

theorem shares_at (b : Fin 8) (h : Fin 32) (i j : Fin 512) :
    shares x wq k (ix4 b h i j) = Ideal.div (powers x wq k (ix4 b h i j)) (∑ j : Fin 512, powers x wq k (ix4 b h i j)) := by
  rw [← total_at]
  pointwise [shares, divisor, kept_at]

theorem averages_at (b : Fin 8) (h : Fin 32) (d : Fin 64) (i : Fin 512) :
    averages x wq k v (ix4 b h d i) = ∑ j : Fin 512, v (ix4 b j h d) * shares x wq k (ix4 b h i j) := by
  pointwise [averages]

/-- The result as a sum over heads and their entries. -/
theorem out_at (b : Fin 8) (i : Fin 512) (e : Fin 768) :
    out x wq k v wo (ix3 b i e) = ∑ h : Fin 32, ∑ d : Fin 64, averages x wq k v (ix4 b h d i) * wo (ix2 (col h d) e) := by
  pointwise [out]
  rw [Fin.sum_univ_tiles 32 64 rfl]
  refine Finset.sum_congr rfl fun h _ => Finset.sum_congr rfl fun d _ => ?_
  have e1 : (⟨(h.val * 64 + d.val) / 64, by omega⟩ : Fin 32) = h := Fin.ext (by simp only []; omega)
  have e2 : (⟨(h.val * 64 + d.val) % 64, by omega⟩ : Fin 64) = d := Fin.ext (by simp only []; omega)
  simp only [e1, e2]

end Cert.Attn.Ref

end
-- ==== Proof.KernelValue.lean ====
/-
What a ring step adds to the output, read at an index over the extended reals.
-/
module

public import proofs.«01_k».proof.Proof.Ends
public import proofs.«01_k».proof.Proof.RefValue
public import Mathlib.Tactic.IntervalCases

@[expose] public section

noncomputable section

namespace Cert.Attn

open Cert.KernelIdeal Cert.KernelIdeal.Gen

open Idealize.ShloMosaic
open Idealize.ShloMosaic.TcCoe
open Idealize.SL.Sem

/-- The block of 64 that a position is in, as the kernel computes it. -/
theorem block_word (i : Fin 512) :
    Scalar.select (IntOp.andi (IntOp.cmpi .ne (IntOp.subi (BitVec.setWidth 32 (IntOp.cmpi .sgt (BitVec.ofNat 32 i.val) 0#32))
        (BitVec.setWidth 32 (IntOp.cmpi .slt (BitVec.ofNat 32 i.val) 0#32)))
        (Scalar.subi (Scalar.extui (Scalar.cmpi .sgt 64#32 0#32)) (Scalar.extui (Scalar.cmpi .slt 64#32 0#32))))
        (IntOp.cmpi .ne (IntOp.remsi .vector (BitVec.ofNat 32 i.val) 64#32) 0#32))
      (IntOp.subi (IntOp.divsi .vector (BitVec.ofNat 32 i.val) 64#32) 1#32) (IntOp.divsi .vector (BitVec.ofNat 32 i.val) 64#32)
      = BitVec.ofNat 32 (i.val / 64) := by
  revert i
  decide +kernel

theorem mask_at (i j : Fin 512) : mask (F := Ideal) (ix2 i j) = if Sees i j then 1 else 0 := by
  have hi := i.isLt
  have hj := j.isLt
  unfold mask
  unfold_payloads
  pointwise
  rw [block_word, block_word, WordCmp.cmpi_sle_ofNat (by omega) (by omega)]
  split_ifs with h
  · rw [decide_eq_true h]
    change ((((BitVec.setWidth 32 (BitVec.ofBool true)).toInt : ℤ) : ℝ) : EReal) = 1
    simp
  · rw [decide_eq_false h]
    change ((((BitVec.setWidth 32 (BitVec.ofBool false)).toInt : ℤ) : ℝ) : EReal) = 0
    simp

theorem queries_at (x : FVec Ideal S512x768 .bf16) (wq : Vec Ideal S1x768x512 .bf16) (i n : Fin 512) :
    queries x wq (ix2 i n) = (∑ e : Fin 768, x (ix2 i e) * wq (ix3 0 e n)) * ((1 / 8 : ℝ) : EReal) := by
  pointwise [queries]
  rw [← scale_eq]

theorem weights_at (q : FVec Ideal S512x64 .bf16) (kp : Vec Ideal S1x1x1x512x64 .f32) (i j : Fin 512) :
    weights q kp (ix2 i j) = Ideal.exp (∑ d : Fin 64, q (ix2 i d) * kp (ix5 0 0 0 j d)) * if Sees i j then 1 else 0 := by
  pointwise [weights, mask_at]

theorem head_at (q : FVec Ideal S512x64 .bf16) (kp vp : Vec Ideal S1x1x1x512x64 .f32) (i : Fin 512) (d : Fin 64) :
    head q kp vp (ix2 i d) = Ideal.div (∑ j : Fin 512, weights q kp (ix2 i j) * vp (ix5 0 0 0 j d)) (∑ j : Fin 512, weights q kp (ix2 i j)) := by
  pointwise [head]

/-- Which of the 512 columns of a ring step entry `d` of its head `hh` is. -/
abbrev col8 (hh : Fin 8) (d : Fin 64) : Fin 512 := ⟨hh.val * 64 + d.val, by omega⟩

/-- A head of the ring step, from its 64 columns of the queries. -/
theorem head_of_columns (q : FVec Ideal S512x512 .bf16) (q' : FVec Ideal S512x64 .bf16) (kp vp : Vec Ideal S1x1x1x512x64 .f32) (hh : Fin 8)
    (hq : ∀ i d, q' (ix2 i d) = q (ix2 i (col8 hh d))) (i : Fin 512) (d : Fin 64) :
    head q' kp vp (ix2 i d) = Ideal.div
      (∑ j : Fin 512, Ideal.exp (∑ d : Fin 64, q (ix2 i (col8 hh d)) * kp (ix5 0 0 0 j d)) * (if Sees i j then 1 else 0) * vp (ix5 0 0 0 j d))
      (∑ j : Fin 512, Ideal.exp (∑ d : Fin 64, q (ix2 i (col8 hh d)) * kp (ix5 0 0 0 j d)) * if Sees i j then 1 else 0) := by
  simp only [head_at, weights_at, hq]

theorem heads_at (q : FVec Ideal S512x512 .bf16) (K V : Fin 8 → Vec Ideal S1x1x1x512x64 .f32) (i : Fin 512) (hh : Fin 8) (d : Fin 64) :
    heads q K V (ix2 i (col8 hh d)) = Ideal.div
      (∑ j : Fin 512, Ideal.exp (∑ d : Fin 64, q (ix2 i (col8 hh d)) * K hh (ix5 0 0 0 j d)) * (if Sees i j then 1 else 0) * V hh (ix5 0 0 0 j d))
      (∑ j : Fin 512, Ideal.exp (∑ d : Fin 64, q (ix2 i (col8 hh d)) * K hh (ix5 0 0 0 j d)) * if Sees i j then 1 else 0) := by
  obtain ⟨n, hn⟩ := hh
  interval_cases n
  all_goals
    pointwise [heads]
    simp -failIfUnchanged (disch := omega) only [dif_neg, dif_pos]
    refine (congrArg _ (congrArg (ix2 i) (Fin.ext ?_))).trans (head_of_columns q _ _ _ ⟨_, hn⟩ (fun i d => ?_) i d)
    · simp only [] <;> omega
    · pointwise
      exact congrArg q (congrArg (ix2 i) (Fin.ext (by simp [col8] <;> omega)))

/-! ## The arguments of a ring step -/

theorem xrow_at (r : Fin 2) (x : FVec Ideal S2x512x768 .bf16) (i : Fin 512) (e : Fin 768) : xrow r x (ix2 i e) = x (ix3 r i e) := by
  match r with
  | 0 => pointwise [xrow]
  | 1 => pointwise [xrow]

variable (m : (ℓ : Loc nD τ sig) → Buf (Elt Ideal) ℓ)

theorem x_at (c : Dev nD) (i : S2x512x768.Idx) : k0_pay5 (xIn m c) i = m ((c : Thread nD τ).loc main_arg0) i := by
  have hz : (fun a => (win0_0.index (0 : Fin 1)) a * main_arg0.ty.shape.size a) = fun _ => 0 := funext fun a => by fin_cases a <;> decide
  have hr := Memref.read_access_unit_zero (Elt Ideal) main_arg0 hz (fun a => by fin_cases a <;> decide) (m ((c : Thread nD τ).loc main_arg0))
  refine Eq.trans ?_ (congrFun hr i)
  unfold_payloads
  pointwise
  rfl

theorem wq_at (c : Dev nD) (e : Fin 768) (n : Fin 512) : QS m c (ix3 0 e n) = m ((c : Thread nD τ).loc main_arg1) (ix2 e n) := by
  have hz : (fun a => (win0_1.index (0 : Fin 1)) a * main_arg1.ty.shape.size a) = fun _ => 0 := funext fun a => by fin_cases a <;> decide
  have hr := Memref.read_access_unit_zero (Elt Ideal) main_arg1 hz (fun a => by fin_cases a <;> decide) (m ((c : Thread nD τ).loc main_arg1))
  refine Eq.trans ?_ (congrFun hr (ix2 e n))
  unfold QS
  unfold_payloads
  pointwise
  rfl

theorem wo_at (c : Dev nD) (n : Fin 512) (e : Fin 768) : OS m c (ix3 0 n e) = m ((c : Thread nD τ).loc main_arg4) (ix2 n e) := by
  have hz : (fun a => (win0_2.index (0 : Fin 1)) a * main_arg4.ty.shape.size a) = fun _ => 0 := funext fun a => by fin_cases a <;> decide
  have hr := Memref.read_access_unit_zero (Elt Ideal) main_arg4 hz (fun a => by fin_cases a <;> decide) (m ((c : Thread nD τ).loc main_arg4))
  refine Eq.trans ?_ (congrFun hr (ix2 n e))
  unfold OS
  unfold_payloads
  pointwise
  rfl

theorem plane_at (b : Bool) (c : Dev nD) (h : Fin 4) (hh : Fin 8) (r : Fin 2) (j : Fin 512) (d : Fin 64) :
    plane m b c h hh r (ix5 0 0 0 j d) = kvA m b c (ix4 (loBatch c r) j (headOf c h hh) d) := by
  exact congrArg (kvA m b c) (ix4_eq_valueIdx (loBatch c r) j (headOf c h hh) d).symm

/-- A device's rows of the input, its columns of the query weights and its rows of the output weights. -/
abbrev xA (c : Dev nD) : FVec Ideal S2x512x768 .f32 := m ((c : Thread nD τ).loc main_arg0)
abbrev wqA (c : Dev nD) : FVec Ideal S768x512 .f32 := m ((c : Thread nD τ).loc main_arg1)
abbrev woA (c : Dev nD) : FVec Ideal S512x768 .f32 := m ((c : Thread nD τ).loc main_arg4)

/-- One query of ring step `h`, before scaling. -/
def query (c : Dev nD) (h : Fin 4) (r : Fin 2) (i n : Fin 512) : EReal :=
  ∑ e : Fin 768, xA m c (ix3 r i e) * wqA m (back c h.val) (ix2 e n)

theorem step_query (c : Dev nD) (h : Fin 4) (r : Fin 2) (i n : Fin 512) :
    queries (xrow r (k0_pay5 (xIn m c))) (QS m (back c h.val)) (ix2 i n) = query m c h r i n * ((1 / 8 : ℝ) : EReal) := by
  simp only [queries_at, xrow_at, x_at, wq_at]
  rfl

/-- The scores of ring step `h` against its head `hh`. -/
def score (c : Dev nD) (h : Fin 4) (r : Fin 2) (hh : Fin 8) (i j : Fin 512) : EReal :=
  ∑ d : Fin 64, query m c h r i (col8 hh d) * ((1 / 8 : ℝ) : EReal) * kvA m false c (ix4 (loBatch c r) j (headOf c h hh) d)

/-- What ring step `h` adds to the output, as a sum over its heads and their entries. -/
theorem contrib_at (c : Dev nD) (h : Fin 4) (r : Fin 2) (i : Fin 512) (e : Fin 768) :
    contrib m c h r (ix2 i e) = ∑ hh : Fin 8, ∑ d : Fin 64, Ideal.div
      (∑ j : Fin 512, Ideal.exp (score m c h r hh i j) * (if Sees i j then 1 else 0) * kvA m true c (ix4 (loBatch c r) j (headOf c h hh) d))
      (∑ j : Fin 512, Ideal.exp (score m c h r hh i j) * if Sees i j then 1 else 0)
      * woA m (back c h.val) (ix2 (col8 hh d) e) := by
  unfold contrib
  pointwise
  rw [Fin.sum_univ_tiles 8 64 rfl]
  refine Finset.sum_congr rfl fun hh _ => Finset.sum_congr rfl fun d _ => ?_
  rw [heads_at, wo_at]
  simp only [plane_at, step_query]
  rfl

/-- The output is the sum of the four ring steps. -/
theorem out_at (c : Dev nD) (r : Fin 2) (i : Fin 512) (e : Fin 768) :
    outFinal m c (ix3 r i e) = ∑ h : Fin 4, contrib m c h r (ix2 i e) := by
  change outRow m c r 3 (ValueIdx.ix3 0 i e) = _
  rw [← ix3_eq_valueIdx, Fin.sum_univ_four]
  simp only [outRow]
  pointwise
  rfl

end Cert.Attn

end
-- ==== Proof.Value.lean ====
/-
The kernel's output is the reference's: each ring step adds the part of eight heads, and the four steps meet all of the heads once.
-/
module

public import proofs.«01_k».proof.Proof.KernelValue
public import proofs.«01_k».proof.Proof.Softmax

@[expose] public section

noncomputable section

namespace Cert.Attn

open Cert.KernelIdeal Cert.KernelIdeal.Gen

open Idealize.ShloMosaic
open Idealize.ShloMosaic.TcCoe
open Idealize.SL.Sem

/-! ## A device's parts of the whole arrays -/

/-- The batch rows a device holds. -/
theorem x_block (X : Cert.ReferenceIdeal.S8x512x768.Idx → EReal) (c : Dev nD) (r : Fin 2) (i : Fin 512) (e : Fin 768) :
    Layout.block ⟨3, ![2, 512, 768]⟩ ⟨3, ![8, 512, 768]⟩ 0 4 c X (by decide) (ix3 r i e) = X (ix3 (loBatch c r) i e) :=
  congrArg X (funext fun x => Fin.ext (by
    fin_cases x
    · change c.val * 2 + r.val = 2 * c.val + r.val
      omega
    · rfl
    · rfl))

/-- The query columns a device holds are those of its eight heads. -/
theorem wq_block (W : Cert.ReferenceIdeal.S768x2048.Idx → EReal) (c : Dev nD) (h : Fin 4) (e : Fin 768) (hh : Fin 8) (d : Fin 64) :
    Layout.block ⟨2, ![768, 512]⟩ ⟨2, ![768, 2048]⟩ 1 4 (back c h.val) W (by decide) (ix2 e (col8 hh d)) = W (ix2 e (Ref.col (headOf c h hh) d)) :=
  congrArg W (funext fun x => Fin.ext (by
    fin_cases x
    · rfl
    · change (back c h.val).val * 512 + (hh.val * 64 + d.val) = (8 * (back c h.val).val + hh.val) * 64 + d.val
      omega))

/-- So are the output rows. -/
theorem wo_block (W : Cert.ReferenceIdeal.S2048x768.Idx → EReal) (c : Dev nD) (h : Fin 4) (hh : Fin 8) (d : Fin 64) (e : Fin 768) :
    Layout.block ⟨2, ![512, 768]⟩ ⟨2, ![2048, 768]⟩ 0 4 (back c h.val) W (by decide) (ix2 (col8 hh d) e) = W (ix2 (Ref.col (headOf c h hh) d) e) :=
  congrArg W (funext fun x => Fin.ext (by
    fin_cases x
    · change (back c h.val).val * 512 + (hh.val * 64 + d.val) = (8 * (back c h.val).val + hh.val) * 64 + d.val
      omega
    · rfl))

/-! ## One ring step -/

variable (m : (ℓ : Loc nD τ sig) → Buf (Elt Ideal) ℓ)
variable (X : FVec Ideal Cert.ReferenceIdeal.S8x512x768 .f32) (Wq : FVec Ideal Cert.ReferenceIdeal.S768x2048 .f32)
  (K V : FVec Ideal Cert.ReferenceIdeal.S8x512x32x64 .f32) (Wo : FVec Ideal Cert.ReferenceIdeal.S2048x768 .f32)

/-- Every device's arguments are its parts of the whole arrays, and the input, the query weights and the keys are real. -/
structure Parts : Prop where
  x : ∀ c, xA m c = Layout.block ⟨3, ![2, 512, 768]⟩ ⟨3, ![8, 512, 768]⟩ 0 4 c X (by decide)
  wq : ∀ c, wqA m c = Layout.block ⟨2, ![768, 512]⟩ ⟨2, ![768, 2048]⟩ 1 4 c Wq (by decide)
  k : ∀ c, kvA m false c = K
  v : ∀ c, kvA m true c = V
  wo : ∀ c, woA m c = Layout.block ⟨2, ![512, 768]⟩ ⟨2, ![2048, 768]⟩ 0 4 c Wo (by decide)
  xReal : ∀ c i, Real' (xA m c i)
  wqReal : ∀ c i, Real' (wqA m c i)
  kReal : ∀ i, Real' (K i)

variable {m X Wq K V Wo}

theorem query_real (P : Parts m X Wq K V Wo) (c : Dev nD) (h : Fin 4) (r : Fin 2) (i n : Fin 512) : Real' (query m c h r i n) :=
  Real'.sum _ fun e => (P.xReal c _).mul (P.wqReal _ _)

/-- The kernel's scores are the reference's. -/
theorem score_eq (P : Parts m X Wq K V Wo) (c : Dev nD) (h : Fin 4) (r : Fin 2) (hh : Fin 8) (i j : Fin 512) :
    score m c h r hh i j = Ref.scores X Wq K (ix4 (loBatch c r) (headOf c h hh) i j) := by
  unfold score
  rw [P.k c, sum_scaled _ _ (fun d => query_real P c h r i (col8 hh d)) (fun d => P.kReal _), Ref.scores_at]
  unfold query
  simp only [P.x, P.wq, x_block, wq_block]

theorem score_real (P : Parts m X Wq K V Wo) (c : Dev nD) (h : Fin 4) (r : Fin 2) (hh : Fin 8) (i j : Fin 512) : Real' (score m c h r hh i j) := by
  unfold score
  rw [P.k c]
  exact Real'.sum _ fun d => ((query_real P c h r i _).mul (Real'.coe _)).mul (P.kReal _)

/-- The part that one head has in the reference's result. -/
def headPart (b : Fin 8) (i : Fin 512) (e : Fin 768) (g : Fin 32) : EReal :=
  ∑ d : Fin 64, Ref.averages X Wq K V (ix4 b g d i) * Wo (ix2 (Ref.col g d) e)

/-- A ring step adds the parts of the eight heads whose weights it has. -/
theorem contrib_eq (P : Parts m X Wq K V Wo) (c : Dev nD) (h : Fin 4) (r : Fin 2) (i : Fin 512) (e : Fin 768) :
    contrib m c h r (ix2 i e) = ∑ hh : Fin 8, headPart (X := X) (Wq := Wq) (K := K) (V := V) (Wo := Wo) (loBatch c r) i e (headOf c h hh) := by
  rw [contrib_at]
  refine Finset.sum_congr rfl fun hh _ => Finset.sum_congr rfl fun d _ => ?_
  rw [P.wo, wo_block, P.v c, softmax_row (fun j => Sees i j) (fun j => score m c h r hh i j) (fun j => V (ix4 (loBatch c r) j (headOf c h hh) d))
    (fun j => score_real P c h r hh i j) 0 (Nat.zero_le _), Ref.averages_at]
  simp only [Ref.shares_at, Ref.powers_at, score_eq P]

/-! ## The four ring steps -/

theorem back_bijective (c : Dev nD) : Function.Bijective fun h : Fin 4 => back c h.val := by
  revert c
  decide

/-- The four ring steps meet every head once. -/
theorem sum_heads (c : Dev nD) (f : Fin 32 → EReal) : ∑ h : Fin 4, ∑ hh : Fin 8, f (headOf c h hh) = ∑ g : Fin 32, f g := by
  rw [Fin.sum_univ_tiles 4 8 rfl]
  refine ((back_bijective c).sum_comp fun y : Dev nD => ∑ hh : Fin 8, f ⟨8 * y.val + hh.val, by have := y.isLt; have : nD = 4 := rfl; omega⟩).trans ?_
  exact Finset.sum_congr rfl fun y _ => Finset.sum_congr rfl fun hh _ => congrArg f (Fin.ext (by
    change 8 * y.val + hh.val = y.val * 8 + hh.val
    omega))

/-- A device's output is its rows of the reference's result. -/
theorem value_eq (P : Parts m X Wq K V Wo) (c : Dev nD) :
    outFinal m c = Layout.block ⟨3, ![2, 512, 768]⟩ ⟨3, ![8, 512, 768]⟩ 0 4 c (Ref.out X Wq K V Wo) (by decide) := by
  refine funext fun x => ?_
  obtain ⟨r, i, e, rfl⟩ : ∃ (r : Fin 2) (i : Fin 512) (e : Fin 768), x = ix3 r i e := ⟨x 0, x 1, x 2, funext fun a => by fin_cases a <;> rfl⟩
  rw [x_block, out_at, Ref.out_at]
  simp only [contrib_eq P]
  exact sum_heads c _

end Cert.Attn

end
-- ==== Proof.Algebraic.lean ====
/-
The value claim: the kernel on four devices computes the reference's result, block by block.
-/
module

public import proofs.«01_k».proof.Proof.Frames
public import proofs.«01_k».proof.Proof.Finite
public import proofs.«01_k».proof.Proof.Value

@[expose] public section

noncomputable section

namespace Cert.Attn

open Cert.KernelIdeal Cert.KernelIdeal.Gen

open Idealize.ShloMosaic
open Idealize.ShloMosaic.TcCoe
open Idealize.SL.Sem

theorem algebraic : Cert.algebraic_KernelIdeal_ReferenceIdeal_pre_finite_KernelIdeal := fun m ρ m' ρ' hp hb => by
  have P : Parts m _ _ _ _ _ :=
    { x := fun c => (hb c).1
      wq := fun c => (hb c).2.1
      k := fun c => (hb c).2.2.1
      v := fun c => (hb c).2.2.2.1
      wo := fun c => (hb c).2.2.2.2
      xReal := fun c => (real_of_pre m hp c).1
      wqReal := fun c => (real_of_pre m hp c).2.1
      kReal := (hb 0).2.2.1 ▸ (real_of_pre m hp 0).2.2 }
  refine ⟨_, (θ_run defs _ _).mono (fun r h c => ⟨(final_out m ρ h c).trans (value_eq P c), final_unchanged m ρ h c⟩) (run_main (F := Ideal) m ρ),
    (θ_run Cert.ReferenceIdeal.defs _ _).mono (fun r h => ⟨(h 0).1.trans (Ref.out_eq m' 0), (h 0).2⟩) (Cert.ReferenceIdeal.Value.run (F := Ideal) m' ρ')⟩

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

/-- The claims together. -/
theorem Cert.Proof.claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.Attn.frame_kernel, Cert.Attn.frame_ideal, Cert.Attn.frame_ideal_pre,
    Cert.Attn.frame_reference, Cert.Attn.frame_reference_pre, trivial, Cert.Attn.algebraic⟩

end
